-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = Layout.block ⟨2, ![4096, 256]⟩ ⟨2, ![4096, 8192]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x4096 : Shape := ⟨2, ![128, 4096]⟩
abbrev S4096x8192 : Shape := ⟨2, ![4096, 8192]⟩
abbrev S_ : Shape := ⟨0, ![]⟩
abbrev S1 : Shape := ⟨1, ![1]⟩
abbrev S4096x256 : Shape := ⟨2, ![4096, 256]⟩
abbrev S4x4096x256 : Shape := ⟨3, ![4, 4096, 256]⟩
abbrev S31x128x256 : Shape := ⟨3, ![31, 128, 256]⟩
abbrev S4 : Shape := ⟨1, ![4]⟩
abbrev S31 : Shape := ⟨1, ![31]⟩
abbrev S32 : Shape := ⟨1, ![32]⟩
abbrev S1x4096x256 : Shape := ⟨3, ![1, 4096, 256]⟩
abbrev S128x256 : Shape := ⟨2, ![128, 256]⟩
abbrev S1x128x256 : Shape := ⟨3, ![1, 128, 256]⟩

abbrev nBuf : Space → Nat
  | .hbm => 10
  | .vmem => 4
  | .smem => 1
  | _ => 0

abbrev bufTy : (tb : Table) → Fin (tcTables nBuf tb) → BufTy
  | .hbm, ⟨0, _⟩ => ⟨S128x4096, .f32⟩
  | .hbm, ⟨1, _⟩ => ⟨S4096x8192, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S1, .i32⟩
  | .hbm, ⟨9, _⟩ => ⟨S4096x256, .f32⟩
  | .local _ .vmem, ⟨0, _⟩ => ⟨S128x4096, .f32⟩
  | .local _ .vmem, ⟨1, _⟩ => ⟨S4096x256, .f32⟩
  | .local _ .vmem, ⟨2, _⟩ => ⟨S4x4096x256, .f32⟩
  | .local _ .vmem, ⟨3, _⟩ => ⟨S31x128x256, .f32⟩
  | .local _ .smem, ⟨0, _⟩ => ⟨S1, .i32⟩
  | _, _ => ⟨S128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 1 → Bool
  | ⟨0, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 1 70 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg1_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_scratch1 : Ref sig .tc := ⟨.vmem, 3, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (v0 : BitVec 32) : Nat :=
  let c1_i32 : BitVec 32 := 1#32
  let v2 : BitVec 32 := Scalar.addi v0 c1_i32
  let c32_i32 : BitVec 32 := 32#32
  let v3 : BitVec 32 := Scalar.remsi v2 c32_i32
  v3.toNat

def k0_dev2 (v0 : BitVec 32) : Nat :=
  let c2_i32 : BitVec 32 := 2#32
  let v4 : BitVec 32 := Scalar.addi v0 c2_i32
  let c32_i32_1 : BitVec 32 := 32#32
  let v5 : BitVec 32 := Scalar.remsi v4 c32_i32_1
  v5.toNat
def k0_dev3 (v0 : BitVec 32) : Nat :=
  let c3_i32 : BitVec 32 := 3#32
  let v6 : BitVec 32 := Scalar.addi v0 c3_i32
  let c32_i32_3 : BitVec 32 := 32#32
  let v7 : BitVec 32 := Scalar.remsi v6 c32_i32_3
  v7.toNat
def k0_dev4 (v0 : BitVec 32) : Nat :=
  let c4_i32 : BitVec 32 := 4#32
  let v8 : BitVec 32 := Scalar.addi v0 c4_i32
  let c32_i32_5 : BitVec 32 := 32#32
  let v9 : BitVec 32 := Scalar.remsi v8 c32_i32_5
  v9.toNat
def k0_dev5 (v0 : BitVec 32) : Nat :=
  let c5_i32 : BitVec 32 := 5#32
  let v10 : BitVec 32 := Scalar.addi v0 c5_i32
  let c32_i32_7 : BitVec 32 := 32#32
  let v11 : BitVec 32 := Scalar.remsi v10 c32_i32_7
  v11.toNat
def k0_dev6 (v0 : BitVec 32) : Nat :=
  let c6_i32 : BitVec 32 := 6#32
  let v12 : BitVec 32 := Scalar.addi v0 c6_i32
  let c32_i32_9 : BitVec 32 := 32#32
  let v13 : BitVec 32 := Scalar.remsi v12 c32_i32_9
  v13.toNat
def k0_dev7 (v0 : BitVec 32) : Nat :=
  let c7_i32 : BitVec 32 := 7#32
  let v14 : BitVec 32 := Scalar.addi v0 c7_i32
  let c32_i32_11 : BitVec 32 := 32#32
  let v15 : BitVec 32 := Scalar.remsi v14 c32_i32_11
  v15.toNat
def k0_dev8 (v0 : BitVec 32) : Nat :=
  let c8_i32 : BitVec 32 := 8#32
  let v16 : BitVec 32 := Scalar.addi v0 c8_i32
  let c32_i32_13 : BitVec 32 := 32#32
  let v17 : BitVec 32 := Scalar.remsi v16 c32_i32_13
  v17.toNat
def k0_dev9 (v0 : BitVec 32) : Nat :=
  let c9_i32 : BitVec 32 := 9#32
  let v18 : BitVec 32 := Scalar.addi v0 c9_i32
  let c32_i32_15 : BitVec 32 := 32#32
  let v19 : BitVec 32 := Scalar.remsi v18 c32_i32_15
  v19.toNat
def k0_dev10 (v0 : BitVec 32) : Nat :=
  let c10_i32 : BitVec 32 := 10#32
  let v20 : BitVec 32 := Scalar.addi v0 c10_i32
  let c32_i32_17 : BitVec 32 := 32#32
  let v21 : BitVec 32 := Scalar.remsi v20 c32_i32_17
  v21.toNat
def k0_dev11 (v0 : BitVec 32) : Nat :=
  let c11_i32 : BitVec 32 := 11#32
  let v22 : BitVec 32 := Scalar.addi v0 c11_i32
  let c32_i32_19 : BitVec 32 := 32#32
  let v23 : BitVec 32 := Scalar.remsi v22 c32_i32_19
  v23.toNat
def k0_dev12 (v0 : BitVec 32) : Nat :=
  let c12_i32 : BitVec 32 := 12#32
  let v24 : BitVec 32 := Scalar.addi v0 c12_i32
  let c32_i32_21 : BitVec 32 := 32#32
  let v25 : BitVec 32 := Scalar.remsi v24 c32_i32_21
  v25.toNat
def k0_dev13 (v0 : BitVec 32) : Nat :=
  let c13_i32 : BitVec 32 := 13#32
  let v26 : BitVec 32 := Scalar.addi v0 c13_i32
  let c32_i32_23 : BitVec 32 := 32#32
  let v27 : BitVec 32 := Scalar.remsi v26 c32_i32_23
  v27.toNat
def k0_dev14 (v0 : BitVec 32) : Nat :=
  let c14_i32 : BitVec 32 := 14#32
  let v28 : BitVec 32 := Scalar.addi v0 c14_i32
  let c32_i32_25 : BitVec 32 := 32#32
  let v29 : BitVec 32 := Scalar.remsi v28 c32_i32_25
  v29.toNat
def k0_dev15 (v0 : BitVec 32) : Nat :=
  let c15_i32 : BitVec 32 := 15#32
  let v30 : BitVec 32 := Scalar.addi v0 c15_i32
  let c32_i32_27 : BitVec 32 := 32#32
  let v31 : BitVec 32 := Scalar.remsi v30 c32_i32_27
  v31.toNat
def k0_dev16 (v0 : BitVec 32) : Nat :=
  let c16_i32 : BitVec 32 := 16#32
  let v32 : BitVec 32 := Scalar.addi v0 c16_i32
  let c32_i32_29 : BitVec 32 := 32#32
  let v33 : BitVec 32 := Scalar.remsi v32 c32_i32_29
  v33.toNat
def k0_dev17 (v0 : BitVec 32) : Nat :=
  let c17_i32 : BitVec 32 := 17#32
  let v34 : BitVec 32 := Scalar.addi v0 c17_i32
  let c32_i32_31 : BitVec 32 := 32#32
  let v35 : BitVec 32 := Scalar.remsi v34 c32_i32_31
  v35.toNat
def k0_dev18 (v0 : BitVec 32) : Nat :=
  let c18_i32 : BitVec 32 := 18#32
  let v36 : BitVec 32 := Scalar.addi v0 c18_i32
  let c32_i32_33 : BitVec 32 := 32#32
  let v37 : BitVec 32 := Scalar.remsi v36 c32_i32_33
  v37.toNat
def k0_dev19 (v0 : BitVec 32) : Nat :=
  let c19_i32 : BitVec 32 := 19#32
  let v38 : BitVec 32 := Scalar.addi v0 c19_i32
  let c32_i32_35 : BitVec 32 := 32#32
  let v39 : BitVec 32 := Scalar.remsi v38 c32_i32_35
  v39.toNat
def k0_dev20 (v0 : BitVec 32) : Nat :=
  let c20_i32 : BitVec 32 := 20#32
  let v40 : BitVec 32 := Scalar.addi v0 c20_i32
  let c32_i32_37 : BitVec 32 := 32#32
  let v41 : BitVec 32 := Scalar.remsi v40 c32_i32_37
  v41.toNat
def k0_dev21 (v0 : BitVec 32) : Nat :=
  let c21_i32 : BitVec 32 := 21#32
  let v42 : BitVec 32 := Scalar.addi v0 c21_i32
  let c32_i32_39 : BitVec 32 := 32#32
  let v43 : BitVec 32 := Scalar.remsi v42 c32_i32_39
  v43.toNat
def k0_dev22 (v0 : BitVec 32) : Nat :=
  let c22_i32 : BitVec 32 := 22#32
  let v44 : BitVec 32 := Scalar.addi v0 c22_i32
  let c32_i32_41 : BitVec 32 := 32#32
  let v45 : BitVec 32 := Scalar.remsi v44 c32_i32_41
  v45.toNat
def k0_dev23 (v0 : BitVec 32) : Nat :=
  let c23_i32 : BitVec 32 := 23#32
  let v46 : BitVec 32 := Scalar.addi v0 c23_i32
  let c32_i32_43 : BitVec 32 := 32#32
  let v47 : BitVec 32 := Scalar.remsi v46 c32_i32_43
  v47.toNat
def k0_dev24 (v0 : BitVec 32) : Nat :=
  let c24_i32 : BitVec 32 := 24#32
  let v48 : BitVec 32 := Scalar.addi v0 c24_i32
  let c32_i32_45 : BitVec 32 := 32#32
  let v49 : BitVec 32 := Scalar.remsi v48 c32_i32_45
  v49.toNat
def k0_dev25 (v0 : BitVec 32) : Nat :=
  let c25_i32 : BitVec 32 := 25#32
  let v50 : BitVec 32 := Scalar.addi v0 c25_i32
  let c32_i32_47 : BitVec 32 := 32#32
  let v51 : BitVec 32 := Scalar.remsi v50 c32_i32_47
  v51.toNat
def k0_dev26 (v0 : BitVec 32) : Nat :=
  let c26_i32 : BitVec 32 := 26#32
  let v52 : BitVec 32 := Scalar.addi v0 c26_i32
  let c32_i32_49 : BitVec 32 := 32#32
  let v53 : BitVec 32 := Scalar.remsi v52 c32_i32_49
  v53.toNat
def k0_dev27 (v0 : BitVec 32) : Nat :=
  let c27_i32 : BitVec 32 := 27#32
  let v54 : BitVec 32 := Scalar.addi v0 c27_i32
  let c32_i32_51 : BitVec 32 := 32#32
  let v55 : BitVec 32 := Scalar.remsi v54 c32_i32_51
  v55.toNat
def k0_dev28 (v0 : BitVec 32) : Nat :=
  let c28_i32 : BitVec 32 := 28#32
  let v56 : BitVec 32 := Scalar.addi v0 c28_i32
  let c32_i32_53 : BitVec 32 := 32#32
  let v57 : BitVec 32 := Scalar.remsi v56 c32_i32_53
  v57.toNat
def k0_dev29 (v0 : BitVec 32) : Nat :=
  let c29_i32 : BitVec 32 := 29#32
  let v58 : BitVec 32 := Scalar.addi v0 c29_i32
  let c32_i32_55 : BitVec 32 := 32#32
  let v59 : BitVec 32 := Scalar.remsi v58 c32_i32_55
  v59.toNat
def k0_dev30 (v0 : BitVec 32) : Nat :=
  let c30_i32 : BitVec 32 := 30#32
  let v60 : BitVec 32 := Scalar.addi v0 c30_i32
  let c32_i32_57 : BitVec 32 := 32#32
  let v61 : BitVec 32 := Scalar.remsi v60 c32_i32_57
  v61.toNat
def k0_dev31 (v0 : BitVec 32) : Nat :=
  let c31_i32 : BitVec 32 := 31#32
  let v62 : BitVec 32 := Scalar.addi v0 c31_i32
  let c32_i32_59 : BitVec 32 := 32#32
  let v63 : BitVec 32 := Scalar.remsi v62 c32_i32_59
  v63.toNat
def k0_off1 (v0 : BitVec 32) (c0_i32 : BitVec 32) : Fin 2 → Nat :=
  let c0_i32_67 : BitVec 32 := 0#32
  let v64 : BitVec 32 := Scalar.addi v0 c0_i32
  let c32_i32_62 : BitVec 32 := 32#32
  let v65 : BitVec 32 := Scalar.remsi v64 c32_i32_62
  let c256_i32 : BitVec 32 := 256#32
  let v66 : BitVec 32 := Scalar.muli v65 c256_i32
  ![0, v66.toNat]
def k0_off2 (v0 : BitVec 32) : Fin 2 → Nat :=
  let c128_i32 : BitVec 32 := 128#32
  let v124 : BitVec 32 := Scalar.muli v0 c128_i32
  let v125 : Index := Scalar.indexCast v124
  let c0_109 : Index := 0#32
  ![v125.toNat, 0]
def k0_off3 (v0 : BitVec 32) : Fin 1 → Nat :=
  ![v0.toNat]
def k0_off4 (v0 : BitVec 32) : Fin 2 → Nat :=
  let c128_i32_137 : BitVec 32 := 128#32
  let v165 : BitVec 32 := Scalar.muli v0 c128_i32_137
  let c0_i32_140 : BitVec 32 := 0#32
  ![v165.toNat, 0]
def k0_dev32 (v0 : BitVec 32) : Nat :=
  let c16_i32_135 : BitVec 32 := 16#32
  let v163 : BitVec 32 := Scalar.addi v0 c16_i32_135
  let c32_i32_136 : BitVec 32 := 32#32
  let v164 : BitVec 32 := Scalar.remsi v163 c32_i32_136
  v164.toNat
def k0_dev33 (v0 : BitVec 32) : Nat :=
  let c15_i32_168 : BitVec 32 := 15#32
  let v209 : BitVec 32 := Scalar.addi v0 c15_i32_168
  let c32_i32_169 : BitVec 32 := 32#32
  let v210 : BitVec 32 := Scalar.remsi v209 c32_i32_169
  v210.toNat
def k0_dev34 (v0 : BitVec 32) : Nat :=
  let c17_i32_201 : BitVec 32 := 17#32
  let v255 : BitVec 32 := Scalar.addi v0 c17_i32_201
  let c32_i32_202 : BitVec 32 := 32#32
  let v256 : BitVec 32 := Scalar.remsi v255 c32_i32_202
  v256.toNat
def k0_dev35 (v0 : BitVec 32) : Nat :=
  let c14_i32_235 : BitVec 32 := 14#32
  let v301 : BitVec 32 := Scalar.addi v0 c14_i32_235
  let c32_i32_236 : BitVec 32 := 32#32
  let v302 : BitVec 32 := Scalar.remsi v301 c32_i32_236
  v302.toNat
def k0_dev36 (v0 : BitVec 32) : Nat :=
  let c18_i32_269 : BitVec 32 := 18#32
  let v347 : BitVec 32 := Scalar.addi v0 c18_i32_269
  let c32_i32_270 : BitVec 32 := 32#32
  let v348 : BitVec 32 := Scalar.remsi v347 c32_i32_270
  v348.toNat
def k0_dev37 (v0 : BitVec 32) : Nat :=
  let c13_i32_303 : BitVec 32 := 13#32
  let v393 : BitVec 32 := Scalar.addi v0 c13_i32_303
  let c32_i32_304 : BitVec 32 := 32#32
  let v394 : BitVec 32 := Scalar.remsi v393 c32_i32_304
  v394.toNat
def k0_dev38 (v0 : BitVec 32) : Nat :=
  let c19_i32_337 : BitVec 32 := 19#32
  let v439 : BitVec 32 := Scalar.addi v0 c19_i32_337
  let c32_i32_338 : BitVec 32 := 32#32
  let v440 : BitVec 32 := Scalar.remsi v439 c32_i32_338
  v440.toNat
def k0_dev39 (v0 : BitVec 32) : Nat :=
  let c12_i32_371 : BitVec 32 := 12#32
  let v485 : BitVec 32 := Scalar.addi v0 c12_i32_371
  let c32_i32_372 : BitVec 32 := 32#32
  let v486 : BitVec 32 := Scalar.remsi v485 c32_i32_372
  v486.toNat
def k0_dev40 (v0 : BitVec 32) : Nat :=
  let c20_i32_405 : BitVec 32 := 20#32
  let v531 : BitVec 32 := Scalar.addi v0 c20_i32_405
  let c32_i32_406 : BitVec 32 := 32#32
  let v532 : BitVec 32 := Scalar.remsi v531 c32_i32_406
  v532.toNat
def k0_dev41 (v0 : BitVec 32) : Nat :=
  let c11_i32_439 : BitVec 32 := 11#32
  let v577 : BitVec 32 := Scalar.addi v0 c11_i32_439
  let c32_i32_440 : BitVec 32 := 32#32
  let v578 : BitVec 32 := Scalar.remsi v577 c32_i32_440
  v578.toNat
def k0_dev42 (v0 : BitVec 32) : Nat :=
  let c21_i32_473 : BitVec 32 := 21#32
  let v623 : BitVec 32 := Scalar.addi v0 c21_i32_473
  let c32_i32_474 : BitVec 32 := 32#32
  let v624 : BitVec 32 := Scalar.remsi v623 c32_i32_474
  v624.toNat
def k0_dev43 (v0 : BitVec 32) : Nat :=
  let c10_i32_507 : BitVec 32 := 10#32
  let v669 : BitVec 32 := Scalar.addi v0 c10_i32_507
  let c32_i32_508 : BitVec 32 := 32#32
  let v670 : BitVec 32 := Scalar.remsi v669 c32_i32_508
  v670.toNat
def k0_dev44 (v0 : BitVec 32) : Nat :=
  let c22_i32_541 : BitVec 32 := 22#32
  let v715 : BitVec 32 := Scalar.addi v0 c22_i32_541
  let c32_i32_542 : BitVec 32 := 32#32
  let v716 : BitVec 32 := Scalar.remsi v715 c32_i32_542
  v716.toNat
def k0_dev45 (v0 : BitVec 32) : Nat :=
  let c9_i32_575 : BitVec 32 := 9#32
  let v761 : BitVec 32 := Scalar.addi v0 c9_i32_575
  let c32_i32_576 : BitVec 32 := 32#32
  let v762 : BitVec 32 := Scalar.remsi v761 c32_i32_576
  v762.toNat
def k0_dev46 (v0 : BitVec 32) : Nat :=
  let c23_i32_609 : BitVec 32 := 23#32
  let v807 : BitVec 32 := Scalar.addi v0 c23_i32_609
  let c32_i32_610 : BitVec 32 := 32#32
  let v808 : BitVec 32 := Scalar.remsi v807 c32_i32_610
  v808.toNat
def k0_dev47 (v0 : BitVec 32) : Nat :=
  let c8_i32_643 : BitVec 32 := 8#32
  let v853 : BitVec 32 := Scalar.addi v0 c8_i32_643
  let c32_i32_644 : BitVec 32 := 32#32
  let v854 : BitVec 32 := Scalar.remsi v853 c32_i32_644
  v854.toNat
def k0_dev48 (v0 : BitVec 32) : Nat :=
  let c24_i32_677 : BitVec 32 := 24#32
  let v899 : BitVec 32 := Scalar.addi v0 c24_i32_677
  let c32_i32_678 : BitVec 32 := 32#32
  let v900 : BitVec 32 := Scalar.remsi v899 c32_i32_678
  v900.toNat
def k0_dev49 (v0 : BitVec 32) : Nat :=
  let c7_i32_711 : BitVec 32 := 7#32
  let v945 : BitVec 32 := Scalar.addi v0 c7_i32_711
  let c32_i32_712 : BitVec 32 := 32#32
  let v946 : BitVec 32 := Scalar.remsi v945 c32_i32_712
  v946.toNat
def k0_dev50 (v0 : BitVec 32) : Nat :=
  let c25_i32_745 : BitVec 32 := 25#32
  let v991 : BitVec 32 := Scalar.addi v0 c25_i32_745
  let c32_i32_746 : BitVec 32 := 32#32
  let v992 : BitVec 32 := Scalar.remsi v991 c32_i32_746
  v992.toNat
def k0_dev51 (v0 : BitVec 32) : Nat :=
  let c6_i32_779 : BitVec 32 := 6#32
  let v1037 : BitVec 32 := Scalar.addi v0 c6_i32_779
  let c32_i32_780 : BitVec 32 := 32#32
  let v1038 : BitVec 32 := Scalar.remsi v1037 c32_i32_780
  v1038.toNat
def k0_dev52 (v0 : BitVec 32) : Nat :=
  let c26_i32_813 : BitVec 32 := 26#32
  let v1083 : BitVec 32 := Scalar.addi v0 c26_i32_813
  let c32_i32_814 : BitVec 32 := 32#32
  let v1084 : BitVec 32 := Scalar.remsi v1083 c32_i32_814
  v1084.toNat
def k0_dev53 (v0 : BitVec 32) : Nat :=
  let c5_i32_847 : BitVec 32 := 5#32
  let v1129 : BitVec 32 := Scalar.addi v0 c5_i32_847
  let c32_i32_848 : BitVec 32 := 32#32
  let v1130 : BitVec 32 := Scalar.remsi v1129 c32_i32_848
  v1130.toNat
def k0_dev54 (v0 : BitVec 32) : Nat :=
  let c27_i32_881 : BitVec 32 := 27#32
  let v1175 : BitVec 32 := Scalar.addi v0 c27_i32_881
  let c32_i32_882 : BitVec 32 := 32#32
  let v1176 : BitVec 32 := Scalar.remsi v1175 c32_i32_882
  v1176.toNat
def k0_dev55 (v0 : BitVec 32) : Nat :=
  let c4_i32_916 : BitVec 32 := 4#32
  let v1221 : BitVec 32 := Scalar.addi v0 c4_i32_916
  let c32_i32_917 : BitVec 32 := 32#32
  let v1222 : BitVec 32 := Scalar.remsi v1221 c32_i32_917
  v1222.toNat
def k0_dev56 (v0 : BitVec 32) : Nat :=
  let c28_i32_950 : BitVec 32 := 28#32
  let v1267 : BitVec 32 := Scalar.addi v0 c28_i32_950
  let c32_i32_951 : BitVec 32 := 32#32
  let v1268 : BitVec 32 := Scalar.remsi v1267 c32_i32_951
  v1268.toNat
def k0_dev57 (v0 : BitVec 32) : Nat :=
  let c3_i32_985 : BitVec 32 := 3#32
  let v1313 : BitVec 32 := Scalar.addi v0 c3_i32_985
  let c32_i32_986 : BitVec 32 := 32#32
  let v1314 : BitVec 32 := Scalar.remsi v1313 c32_i32_986
  v1314.toNat
def k0_dev58 (v0 : BitVec 32) : Nat :=
  let c29_i32_1019 : BitVec 32 := 29#32
  let v1359 : BitVec 32 := Scalar.addi v0 c29_i32_1019
  let c32_i32_1020 : BitVec 32 := 32#32
  let v1360 : BitVec 32 := Scalar.remsi v1359 c32_i32_1020
  v1360.toNat
def k0_dev59 (v0 : BitVec 32) : Nat :=
  let c2_i32_1054 : BitVec 32 := 2#32
  let v1405 : BitVec 32 := Scalar.addi v0 c2_i32_1054
  let c32_i32_1055 : BitVec 32 := 32#32
  let v1406 : BitVec 32 := Scalar.remsi v1405 c32_i32_1055
  v1406.toNat
def k0_dev60 (v0 : BitVec 32) : Nat :=
  let c30_i32_1080 : BitVec 32 := 30#32
  let v1443 : BitVec 32 := Scalar.addi v0 c30_i32_1080
  let c32_i32_1081 : BitVec 32 := 32#32
  let v1444 : BitVec 32 := Scalar.remsi v1443 c32_i32_1081
  v1444.toNat
def k0_dev61 (v0 : BitVec 32) : Nat :=
  let c1_i32_1107 : BitVec 32 := 1#32
  let v1481 : BitVec 32 := Scalar.addi v0 c1_i32_1107
  let c32_i32_1108 : BitVec 32 := 32#32
  let v1482 : BitVec 32 := Scalar.remsi v1481 c32_i32_1108
  v1482.toNat
def k0_dev62 (v0 : BitVec 32) : Nat :=
  let c31_i32_1133 : BitVec 32 := 31#32
  let v1519 : BitVec 32 := Scalar.addi v0 c31_i32_1133
  let c32_i32_1134 : BitVec 32 := 32#32
  let v1520 : BitVec 32 := Scalar.remsi v1519 c32_i32_1134
  v1520.toNat

def k0_chk1_0 (v0 : BitVec 32) : Prop :=
  ((k0_dev1 v0) < nD) ∧
  ((k0_dev2 v0) < nD) ∧
  ((k0_dev3 v0) < nD) ∧
  ((k0_dev4 v0) < nD) ∧
  ((k0_dev5 v0) < nD) ∧
  ((k0_dev6 v0) < nD) ∧
  ((k0_dev7 v0) < nD) ∧
  ((k0_dev8 v0) < nD) ∧
  ((k0_dev9 v0) < nD) ∧
  ((k0_dev10 v0) < nD) ∧
  ((k0_dev11 v0) < nD) ∧
  ((k0_dev12 v0) < nD) ∧
  ((k0_dev13 v0) < nD) ∧
  ((k0_dev14 v0) < nD) ∧
  ((k0_dev15 v0) < nD) ∧
  ((k0_dev16 v0) < nD) ∧
  ((k0_dev17 v0) < nD) ∧
  ((k0_dev18 v0) < nD) ∧
  ((k0_dev19 v0) < nD) ∧
  ((k0_dev20 v0) < nD) ∧
  ((k0_dev21 v0) < nD) ∧
  ((k0_dev22 v0) < nD) ∧
  ((k0_dev23 v0) < nD) ∧
  ((k0_dev24 v0) < nD) ∧
  ((k0_dev25 v0) < nD) ∧
  ((k0_dev26 v0) < nD) ∧
  ((k0_dev27 v0) < nD) ∧
  ((k0_dev28 v0) < nD) ∧
  ((k0_dev29 v0) < nD) ∧
  ((k0_dev30 v0) < nD) ∧
  ((k0_dev31 v0) < nD) ∧
  (∀ (r : Fin 32), ∀ a, (k0_off1 v0 (BitVec.ofNat 32 r.val)) a + S4096x256.size a ≤ S4096x8192.size a)
def k0_chk1_1 (v0 : BitVec 32) : Prop :=
  (∀ a, (k0_off2 v0) a + S128x256.size a ≤ S4096x256.size a) ∧
  (∀ a, (k0_off3 v0) a + S1.size a ≤ S32.size a) ∧
  (∀ a, (k0_off4 v0) a + S128x256.size a ≤ S4096x256.size a) ∧
  ((k0_dev32 v0) < nD) ∧
  ((k0_dev33 v0) < nD) ∧
  ((k0_dev34 v0) < nD) ∧
  ((k0_dev35 v0) < nD) ∧
  ((k0_dev36 v0) < nD) ∧
  ((k0_dev37 v0) < nD) ∧
  ((k0_dev38 v0) < nD) ∧
  ((k0_dev39 v0) < nD) ∧
  ((k0_dev40 v0) < nD) ∧
  ((k0_dev41 v0) < nD) ∧
  ((k0_dev42 v0) < nD) ∧
  ((k0_dev43 v0) < nD) ∧
  ((k0_dev44 v0) < nD) ∧
  ((k0_dev45 v0) < nD) ∧
  ((k0_dev46 v0) < nD) ∧
  ((k0_dev47 v0) < nD) ∧
  ((k0_dev48 v0) < nD) ∧
  ((k0_dev49 v0) < nD) ∧
  ((k0_dev50 v0) < nD) ∧
  ((k0_dev51 v0) < nD) ∧
  ((k0_dev52 v0) < nD) ∧
  ((k0_dev53 v0) < nD) ∧
  ((k0_dev54 v0) < nD) ∧
  ((k0_dev55 v0) < nD) ∧
  ((k0_dev56 v0) < nD) ∧
  ((k0_dev57 v0) < nD) ∧
  ((k0_dev58 v0) < nD) ∧
  ((k0_dev59 v0) < nD) ∧
  ((k0_dev60 v0) < nD)
def k0_chk1_2 (v0 : BitVec 32) : Prop :=
  ((k0_dev61 v0) < nD) ∧
  ((k0_dev62 v0) < nD)
def k0_chk1 (v0 : BitVec 32) : Prop :=
  k0_chk1_0 v0 ∧
  k0_chk1_1 v0 ∧
  k0_chk1_2 v0
theorem k0_dev1_lt : ∀ (v0 : BitVec 32) (k0_hw1 : k0_chk1 v0), (k0_dev1 v0) < nD := fun v0 k0_hw1 => k0_hw1.1.1
theorem k0_dev2_lt : ∀ (v0 : BitVec 32) (k0_hw1 : k0_chk1 v0), (k0_dev2 v0) < nD := fun v0 k0_hw1 => k0_hw1.1.2.1
theorem k0_dev3_lt : ∀ (v0 : BitVec 32) (k0_hw1 : k0_chk1 v0), (k0_dev3 v0) < nD := fun v0 k0_hw1 => k0_hw1.1.2.2.1
theorem k0_dev4_lt : ∀ (v0 : BitVec 32) (k0_hw1 : k0_chk1 v0), (k0_dev4 v0) < nD := fun v0 k0_hw1 => k0_hw1.1.2.2.2.1
theorem k0_dev5_lt : ∀ (v0 : BitVec 32) (k0_hw1 : k0_chk1 v0), (k0_dev5 v0) < nD := fun v0 k0_hw1 => k0_hw1.1.2.2.2.2.1
theorem k0_dev6_lt : ∀ (v0 : BitVec 32) (k0_hw1 : k0_chk1 v0), (k0_dev6 v0) < nD := fun v0 k0_hw1 => k0_hw1.1.2.2.2.2.2.1
theorem k0_dev7_lt : ∀ (v0 : BitVec 32) (k0_hw1 : k0_chk1 v0), (k0_dev7 v0) < nD := fun v0 k0_hw1 => k0_hw1.1.2.2.2.2.2.2.1
theorem k0_dev8_lt : ∀ (v0 : BitVec 32) (k0_hw1 : k0_chk1 v0), (k0_dev8 v0) < nD := fun v0 k0_hw1 => k0_hw1.1.2.2.2.2.2.2.2.1
theorem k0_dev9_lt : ∀ (v0 : BitVec 32) (k0_hw1 : k0_chk1 v0), (k0_dev9 v0) < nD := fun v0 k0_hw1 => k0_hw1.1.2.2.2.2.2.2.2.2.1
theorem k0_dev10_lt : ∀ (v0 : BitVec 32) (k0_hw1 : k0_chk1 v0), (k0_dev10 v0) < nD := fun v0 k0_hw1 => k0_hw1.1.2.2.2.2.2.2.2.2.2.1
theorem k0_dev11_lt : ∀ (v0 : BitVec 32) (k0_hw1 : k0_chk1 v0), (k0_dev11 v0) < nD := fun v0 k0_hw1 => k0_hw1.1.2.2.2.2.2.2.2.2.2.2.1
theorem k0_dev12_lt : ∀ (v0 : BitVec 32) (k0_hw1 : k0_chk1 v0), (k0_dev12 v0) < nD := fun v0 k0_hw1 => k0_hw1.1.2.2.2.2.2.2.2.2.2.2.2.1
theorem k0_dev13_lt : ∀ (v0 : BitVec 32) (k0_hw1 : k0_chk1 v0), (k0_dev13 v0) < nD := fun v0 k0_hw1 => k0_hw1.1.2.2.2.2.2.2.2.2.2.2.2.2.1
theorem k0_dev14_lt : ∀ (v0 : BitVec 32) (k0_hw1 : k0_chk1 v0), (k0_dev14 v0) < nD := fun v0 k0_hw1 => k0_hw1.1.2.2.2.2.2.2.2.2.2.2.2.2.2.1
theorem k0_dev15_lt : ∀ (v0 : BitVec 32) (k0_hw1 : k0_chk1 v0), (k0_dev15 v0) < nD := fun v0 k0_hw1 => k0_hw1.1.2.2.2.2.2.2.2.2.2.2.2.2.2.2.1
theorem k0_dev16_lt : ∀ (v0 : BitVec 32) (k0_hw1 : k0_chk1 v0), (k0_dev16 v0) < nD := fun v0 k0_hw1 => k0_hw1.1.2.2.2.2.2.2.2.2.2.2.2.2.2.2.2.1
theorem k0_dev17_lt : ∀ (v0 : BitVec 32) (k0_hw1 : k0_chk1 v0), (k0_dev17 v0) < nD := fun v0 k0_hw1 => k0_hw1.1.2.2.2.2.2.2.2.2.2.2.2.2.2.2.2.2.1
theorem k0_dev18_lt : ∀ (v0 : BitVec 32) (k0_hw1 : k0_chk1 v0), (k0_dev18 v0) < nD := fun v0 k0_hw1 => k0_hw1.1.2.2.2.2.2.2.2.2.2.2.2.2.2.2.2.2.2.1
theorem k0_dev19_lt : ∀ (v0 : BitVec 32) (k0_hw1 : k0_chk1 v0), (k0_dev19 v0) < nD := fun v0 k0_hw1 => k0_hw1.1.2.2.2.2.2.2.2.2.2.2.2.2.2.2.2.2.2.2.1
theorem k0_dev20_lt : ∀ (v0 : BitVec 32) (k0_hw1 : k0_chk1 v0), (k0_dev20 v0) < nD := fun v0 k0_hw1 => k0_hw1.1.2.2.2.2.2.2.2.2.2.2.2.2.2.2.2.2.2.2.2.1
theorem k0_dev21_lt : ∀ (v0 : BitVec 32) (k0_hw1 : k0_chk1 v0), (k0_dev21 v0) < nD := fun v0 k0_hw1 => k0_hw1.1.2.2.2.2.2.2.2.2.2.2.2.2.2.2.2.2.2.2.2.2.1
theorem k0_dev22_lt : ∀ (v0 : BitVec 32) (k0_hw1 : k0_chk1 v0), (k0_dev22 v0) < nD := fun v0 k0_hw1 => k0_hw1.1.2.2.2.2.2.2.2.2.2.2.2.2.2.2.2.2.2.2.2.2.2.1
theorem k0_dev23_lt : ∀ (v0 : BitVec 32) (k0_hw1 : k0_chk1 v0), (k0_dev23 v0) < nD := fun v0 k0_hw1 => k0_hw1.1.2.2.2.2.2.2.2.2.2.2.2.2.2.2.2.2.2.2.2.2.2.2.1
theorem k0_dev24_lt : ∀ (v0 : BitVec 32) (k0_hw1 : k0_chk1 v0), (k0_dev24 v0) < nD := fun v0 k0_hw1 => k0_hw1.1.2.2.2.2.2.2.2.2.2.2.2.2.2.2.2.2.2.2.2.2.2.2.2.1
theorem k0_dev25_lt : ∀ (v0 : BitVec 32) (k0_hw1 : k0_chk1 v0), (k0_dev25 v0) < nD := fun v0 k0_hw1 => k0_hw1.1.2.2.2.2.2.2.2.2.2.2.2.2.2.2.2.2.2.2.2.2.2.2.2.2.1
theorem k0_dev26_lt : ∀ (v0 : BitVec 32) (k0_hw1 : k0_chk1 v0), (k0_dev26 v0) < nD := fun v0 k0_hw1 => k0_hw1.1.2.2.2.2.2.2.2.2.2.2.2.2.2.2.2.2.2.2.2.2.2.2.2.2.2.1
theorem k0_dev27_lt : ∀ (v0 : BitVec 32) (k0_hw1 : k0_chk1 v0), (k0_dev27 v0) < nD := fun v0 k0_hw1 => k0_hw1.1.2.2.2.2.2.2.2.2.2.2.2.2.2.2.2.2.2.2.2.2.2.2.2.2.2.2.1
theorem k0_dev28_lt : ∀ (v0 : BitVec 32) (k0_hw1 : k0_chk1 v0), (k0_dev28 v0) < nD := fun v0 k0_hw1 => k0_hw1.1.2.2.2.2.2.2.2.2.2.2.2.2.2.2.2.2.2.2.2.2.2.2.2.2.2.2.2.1
theorem k0_dev29_lt : ∀ (v0 : BitVec 32) (k0_hw1 : k0_chk1 v0), (k0_dev29 v0) < nD := fun v0 k0_hw1 => k0_hw1.1.2.2.2.2.2.2.2.2.2.2.2.2.2.2.2.2.2.2.2.2.2.2.2.2.2.2.2.2.1
theorem k0_dev30_lt : ∀ (v0 : BitVec 32) (k0_hw1 : k0_chk1 v0), (k0_dev30 v0) < nD := fun v0 k0_hw1 => k0_hw1.1.2.2.2.2.2.2.2.2.2.2.2.2.2.2.2.2.2.2.2.2.2.2.2.2.2.2.2.2.2.1
theorem k0_dev31_lt : ∀ (v0 : BitVec 32) (k0_hw1 : k0_chk1 v0), (k0_dev31 v0) < nD := fun v0 k0_hw1 => k0_hw1.1.2.2.2.2.2.2.2.2.2.2.2.2.2.2.2.2.2.2.2.2.2.2.2.2.2.2.2.2.2.2.1
theorem k0_off1_inb : ∀ (v0 : BitVec 32) (k0_hw1 : k0_chk1 v0), ∀ (r : Fin 32), ∀ a, (k0_off1 v0 (BitVec.ofNat 32 r.val)) a + S4096x256.size a ≤ S4096x8192.size a := fun v0 k0_hw1 r => k0_hw1.1.2.2.2.2.2.2.2.2.2.2.2.2.2.2.2.2.2.2.2.2.2.2.2.2.2.2.2.2.2.2.2 r
theorem k0_off2_inb : ∀ (v0 : BitVec 32) (k0_hw1 : k0_chk1 v0), ∀ a, (k0_off2 v0) a + S128x256.size a ≤ S4096x256.size a := fun v0 k0_hw1 => k0_hw1.2.1.1
theorem k0_off3_inb : ∀ (v0 : BitVec 32) (k0_hw1 : k0_chk1 v0), ∀ a, (k0_off3 v0) a + S1.size a ≤ S32.size a := fun v0 k0_hw1 => k0_hw1.2.1.2.1
theorem k0_off4_inb : ∀ (v0 : BitVec 32) (k0_hw1 : k0_chk1 v0), ∀ a, (k0_off4 v0) a + S128x256.size a ≤ S4096x256.size a := fun v0 k0_hw1 => k0_hw1.2.1.2.2.1
theorem k0_dev32_lt : ∀ (v0 : BitVec 32) (k0_hw1 : k0_chk1 v0), (k0_dev32 v0) < nD := fun v0 k0_hw1 => k0_hw1.2.1.2.2.2.1
theorem k0_dev33_lt : ∀ (v0 : BitVec 32) (k0_hw1 : k0_chk1 v0), (k0_dev33 v0) < nD := fun v0 k0_hw1 => k0_hw1.2.1.2.2.2.2.1
theorem k0_dev34_lt : ∀ (v0 : BitVec 32) (k0_hw1 : k0_chk1 v0), (k0_dev34 v0) < nD := fun v0 k0_hw1 => k0_hw1.2.1.2.2.2.2.2.1
theorem k0_dev35_lt : ∀ (v0 : BitVec 32) (k0_hw1 : k0_chk1 v0), (k0_dev35 v0) < nD := fun v0 k0_hw1 => k0_hw1.2.1.2.2.2.2.2.2.1
theorem k0_dev36_lt : ∀ (v0 : BitVec 32) (k0_hw1 : k0_chk1 v0), (k0_dev36 v0) < nD := fun v0 k0_hw1 => k0_hw1.2.1.2.2.2.2.2.2.2.1
theorem k0_dev37_lt : ∀ (v0 : BitVec 32) (k0_hw1 : k0_chk1 v0), (k0_dev37 v0) < nD := fun v0 k0_hw1 => k0_hw1.2.1.2.2.2.2.2.2.2.2.1
theorem k0_dev38_lt : ∀ (v0 : BitVec 32) (k0_hw1 : k0_chk1 v0), (k0_dev38 v0) < nD := fun v0 k0_hw1 => k0_hw1.2.1.2.2.2.2.2.2.2.2.2.1
theorem k0_dev39_lt : ∀ (v0 : BitVec 32) (k0_hw1 : k0_chk1 v0), (k0_dev39 v0) < nD := fun v0 k0_hw1 => k0_hw1.2.1.2.2.2.2.2.2.2.2.2.2.1
theorem k0_dev40_lt : ∀ (v0 : BitVec 32) (k0_hw1 : k0_chk1 v0), (k0_dev40 v0) < nD := fun v0 k0_hw1 => k0_hw1.2.1.2.2.2.2.2.2.2.2.2.2.2.1
theorem k0_dev41_lt : ∀ (v0 : BitVec 32) (k0_hw1 : k0_chk1 v0), (k0_dev41 v0) < nD := fun v0 k0_hw1 => k0_hw1.2.1.2.2.2.2.2.2.2.2.2.2.2.2.1
theorem k0_dev42_lt : ∀ (v0 : BitVec 32) (k0_hw1 : k0_chk1 v0), (k0_dev42 v0) < nD := fun v0 k0_hw1 => k0_hw1.2.1.2.2.2.2.2.2.2.2.2.2.2.2.2.1
theorem k0_dev43_lt : ∀ (v0 : BitVec 32) (k0_hw1 : k0_chk1 v0), (k0_dev43 v0) < nD := fun v0 k0_hw1 => k0_hw1.2.1.2.2.2.2.2.2.2.2.2.2.2.2.2.2.1
theorem k0_dev44_lt : ∀ (v0 : BitVec 32) (k0_hw1 : k0_chk1 v0), (k0_dev44 v0) < nD := fun v0 k0_hw1 => k0_hw1.2.1.2.2.2.2.2.2.2.2.2.2.2.2.2.2.2.1
theorem k0_dev45_lt : ∀ (v0 : BitVec 32) (k0_hw1 : k0_chk1 v0), (k0_dev45 v0) < nD := fun v0 k0_hw1 => k0_hw1.2.1.2.2.2.2.2.2.2.2.2.2.2.2.2.2.2.2.1
theorem k0_dev46_lt : ∀ (v0 : BitVec 32) (k0_hw1 : k0_chk1 v0), (k0_dev46 v0) < nD := fun v0 k0_hw1 => k0_hw1.2.1.2.2.2.2.2.2.2.2.2.2.2.2.2.2.2.2.2.1
theorem k0_dev47_lt : ∀ (v0 : BitVec 32) (k0_hw1 : k0_chk1 v0), (k0_dev47 v0) < nD := fun v0 k0_hw1 => k0_hw1.2.1.2.2.2.2.2.2.2.2.2.2.2.2.2.2.2.2.2.2.1
theorem k0_dev48_lt : ∀ (v0 : BitVec 32) (k0_hw1 : k0_chk1 v0), (k0_dev48 v0) < nD := fun v0 k0_hw1 => k0_hw1.2.1.2.2.2.2.2.2.2.2.2.2.2.2.2.2.2.2.2.2.2.1
theorem k0_dev49_lt : ∀ (v0 : BitVec 32) (k0_hw1 : k0_chk1 v0), (k0_dev49 v0) < nD := fun v0 k0_hw1 => k0_hw1.2.1.2.2.2.2.2.2.2.2.2.2.2.2.2.2.2.2.2.2.2.2.1
theorem k0_dev50_lt : ∀ (v0 : BitVec 32) (k0_hw1 : k0_chk1 v0), (k0_dev50 v0) < nD := fun v0 k0_hw1 => k0_hw1.2.1.2.2.2.2.2.2.2.2.2.2.2.2.2.2.2.2.2.2.2.2.2.1
theorem k0_dev51_lt : ∀ (v0 : BitVec 32) (k0_hw1 : k0_chk1 v0), (k0_dev51 v0) < nD := fun v0 k0_hw1 => k0_hw1.2.1.2.2.2.2.2.2.2.2.2.2.2.2.2.2.2.2.2.2.2.2.2.2.1
theorem k0_dev52_lt : ∀ (v0 : BitVec 32) (k0_hw1 : k0_chk1 v0), (k0_dev52 v0) < nD := fun v0 k0_hw1 => k0_hw1.2.1.2.2.2.2.2.2.2.2.2.2.2.2.2.2.2.2.2.2.2.2.2.2.2.1
theorem k0_dev53_lt : ∀ (v0 : BitVec 32) (k0_hw1 : k0_chk1 v0), (k0_dev53 v0) < nD := fun v0 k0_hw1 => k0_hw1.2.1.2.2.2.2.2.2.2.2.2.2.2.2.2.2.2.2.2.2.2.2.2.2.2.2.1
theorem k0_dev54_lt : ∀ (v0 : BitVec 32) (k0_hw1 : k0_chk1 v0), (k0_dev54 v0) < nD := fun v0 k0_hw1 => k0_hw1.2.1.2.2.2.2.2.2.2.2.2.2.2.2.2.2.2.2.2.2.2.2.2.2.2.2.2.1
theorem k0_dev55_lt : ∀ (v0 : BitVec 32) (k0_hw1 : k0_chk1 v0), (k0_dev55 v0) < nD := fun v0 k0_hw1 => k0_hw1.2.1.2.2.2.2.2.2.2.2.2.2.2.2.2.2.2.2.2.2.2.2.2.2.2.2.2.2.1
theorem k0_dev56_lt : ∀ (v0 : BitVec 32) (k0_hw1 : k0_chk1 v0), (k0_dev56 v0) < nD := fun v0 k0_hw1 => k0_hw1.2.1.2.2.2.2.2.2.2.2.2.2.2.2.2.2.2.2.2.2.2.2.2.2.2.2.2.2.2.1
theorem k0_dev57_lt : ∀ (v0 : BitVec 32) (k0_hw1 : k0_chk1 v0), (k0_dev57 v0) < nD := fun v0 k0_hw1 => k0_hw1.2.1.2.2.2.2.2.2.2.2.2.2.2.2.2.2.2.2.2.2.2.2.2.2.2.2.2.2.2.2.1
theorem k0_dev58_lt : ∀ (v0 : BitVec 32) (k0_hw1 : k0_chk1 v0), (k0_dev58 v0) < nD := fun v0 k0_hw1 => k0_hw1.2.1.2.2.2.2.2.2.2.2.2.2.2.2.2.2.2.2.2.2.2.2.2.2.2.2.2.2.2.2.2.1
theorem k0_dev59_lt : ∀ (v0 : BitVec 32) (k0_hw1 : k0_chk1 v0), (k0_dev59 v0) < nD := fun v0 k0_hw1 => k0_hw1.2.1.2.2.2.2.2.2.2.2.2.2.2.2.2.2.2.2.2.2.2.2.2.2.2.2.2.2.2.2.2.2.1
theorem k0_dev60_lt : ∀ (v0 : BitVec 32) (k0_hw1 : k0_chk1 v0), (k0_dev60 v0) < nD := fun v0 k0_hw1 => k0_hw1.2.1.2.2.2.2.2.2.2.2.2.2.2.2.2.2.2.2.2.2.2.2.2.2.2.2.2.2.2.2.2.2.2
theorem k0_dev61_lt : ∀ (v0 : BitVec 32) (k0_hw1 : k0_chk1 v0), (k0_dev61 v0) < nD := fun v0 k0_hw1 => k0_hw1.2.2.1
theorem k0_dev62_lt : ∀ (v0 : BitVec 32) (k0_hw1 : k0_chk1 v0), (k0_dev62 v0) < nD := fun v0 k0_hw1 => k0_hw1.2.2.2

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S4096x8192, .f32⟩
  | .hbm, ⟨8, _⟩ => ⟨S_, .f32⟩
  | .hbm, ⟨9, _⟩ => ⟨S4096x8192, .f32⟩
  | .hbm, ⟨10, _⟩ => ⟨S4096x8192, .f32⟩
  | .hbm, ⟨11, _⟩ => ⟨S4096x8192, .f32⟩
  | .hbm, ⟨12, _⟩ => ⟨S_, .f32⟩
  | .hbm, ⟨13, _⟩ => ⟨S4096x8192, .f32⟩
  | .hbm, ⟨14, _⟩ => ⟨S4096x8192, .f32⟩
  | .hbm, ⟨15, _⟩ => ⟨S4096x8192, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Steps.lean ====
/- The kernel body as a sequence of a few kinds of step, each written once over its offset and slot:
   a signal to the device `s` further round, a copy of a block of columns of the weights into a slot,
   the product of one tile and its sending to the device it belongs to, the wait for the tile of one
   sender and the wait for one's own sending to be done. `head_eq` and `body_eq` state that the
   printed body is this sequence. -/
module

public import proofs.«01_k».proof.Proof.Gen.KernelIdeal

@[expose] public section

set_option synthInstance.maxSize 4096

noncomputable section

namespace Cert.KernelIdeal.Gen

open Idealize.ShloMosaic Idealize.SL.Sem

variable {F : FTy → Type} [FloatOps F]

/-- The kernel's programs. -/
abbrev KProg (F : FTy → Type) [FloatOps F] (α : Type) := Prog (TpuEff nD τ sig (Elt F) Λ₀ .tc) α

/-! ## Values -/

/-- The device's rows, rounded to the product's operand type. -/
def rowsB (x : Vec F S128x4096 .f32) : FVec F S128x4096 .bf16 :=
  truncf .bf16 (shapeCast S128x4096 x shapeCasts_S128x4096_S128x4096) bitsLt_bf16_f32

/-- One tile before the nonlinearity: the device's rows against one block of columns of the weights. -/
def prodTile (xb : FVec F S128x4096 .bf16) (w : Vec F S1x4096x256 .f32) : FVec F S128x256 .f32 :=
  matmul dot_S128x4096_S4096x256_S128x256_1_0_0_1_n_n none xb
    (truncf .bf16 (shapeCast S4096x256 w shapeCasts_S1x4096x256_S4096x256) bitsLt_bf16_f32)
    (constant S128x256 .f32 0x00000000#32)

/-- The nonlinearity, element by element. -/
def geluTile (y : FVec F S128x256 .f32) : FVec F S128x256 .f32 :=
  mulf (mulf (broadcast S128x256 (Scalar.ofBits .f32 0x3F000000#32 : F .f32)) y)
    (addf (broadcast S128x256 (Scalar.ofBits .f32 0x3F800000#32 : F .f32))
      (tanh (mulf (broadcast S128x256 (Scalar.ofBits .f32 0x3F4C422A#32 : F .f32))
        (addf y (mulf (mulf (mulf (broadcast S128x256 (Scalar.ofBits .f32 0x3D372713#32 : F .f32)) y) y) y)))))

/-! ## Addresses -/

/-- The device `s` further round from the one of number `v0`. -/
def devW (v0 : BitVec 32) (s : ℕ) : ℕ := (Scalar.remsi (Scalar.addi v0 (BitVec.ofNat 32 s)) 32#32).toNat

/-- The kernel's checked addresses are those of devices of the mesh. -/
theorem devW_lt (v0 : BitVec 32) (hw : k0_chk1 v0) (i : Fin 31) : devW v0 (i.val + 1) < nD := by
  unfold k0_chk1 k0_chk1_0 at hw
  have h := hw.1
  clear hw
  revert h
  simp only [k0_dev1, k0_dev2, k0_dev3, k0_dev4, k0_dev5, k0_dev6, k0_dev7, k0_dev8, k0_dev9, k0_dev10, k0_dev11,
    k0_dev12, k0_dev13, k0_dev14, k0_dev15, k0_dev16, k0_dev17, k0_dev18, k0_dev19, k0_dev20, k0_dev21, k0_dev22,
    k0_dev23, k0_dev24, k0_dev25, k0_dev26, k0_dev27, k0_dev28, k0_dev29, k0_dev30, k0_dev31]
  intro h
  fin_cases i <;> simp only [devW, h]

theorem slotW_inb : ∀ (k : Fin 4) (a : Fin 3), (![k.val, 0, 0] : Fin 3 → ℕ) a + S1x4096x256.size a ≤ S4x4096x256.size a := by
  decide

theorem slotY_inb : ∀ (i : Fin 31) (a : Fin 3), (![i.val, 0, 0] : Fin 3 → ℕ) a + S1x128x256.size a ≤ S31x128x256.size a := by
  decide

theorem sem4_inb : ∀ (k : Fin 4) (a : Fin 1), (![k.val] : Fin 1 → ℕ) a + S1.size a ≤ S4.size a := by decide

theorem sem31_inb : ∀ (k : Fin 31) (a : Fin 1), (![k.val] : Fin 1 → ℕ) a + S1.size a ≤ S31.size a := by decide

theorem sem32_inb : ∀ (k : Fin 32) (a : Fin 1), (![k.val] : Fin 1 → ℕ) a + S1.size a ≤ S32.size a := by decide

/-- Slot `k` of the buffer of weights. -/
abbrev slotW (k : Fin 4) : Rect S4x4096x256 := Rect.unit (s := S4x4096x256) ![k.val, 0, 0] S1x4096x256.size (slotW_inb k)

/-- Slot `i` of the buffer of tiles. -/
abbrev slotY (i : Fin 31) : Rect S31x128x256 := Rect.unit (s := S31x128x256) ![i.val, 0, 0] S1x128x256.size (slotY_inb i)

section Steps

variable (arg1 : Memref sig .tc .vmem S128x4096 .f32) (arg2 : Memref sig .tc .hbm S4096x8192 .f32)
  (arg3 : Memref sig .tc .vmem S4096x256 .f32) (arg4 : Memref sig .tc .vmem S4x4096x256 .f32)
  (arg5 : Memref sig .tc .vmem S31x128x256 .f32) (arg6 : DmaSems sig S4) (arg7 : DmaSems sig S31) (arg8 : DmaSems sig S32)
  (v0 : BitVec 32) (hw : k0_chk1 v0)

/-- The block of columns of the weights that belongs to the device `s` further round. -/
abbrev wCols (s : Fin 32) : Memref sig .tc .hbm S4096x256 .f32 :=
  arg2.slice (Rect.unit (s := S4096x8192) (k0_off1 v0 (BitVec.ofNat 32 s.val)) S4096x256.size (k0_off1_inb v0 hw s)) (fun _ => rfl)

/-- Slot `k` of the buffer of weights, as a matrix. -/
abbrev wSlot (k : Fin 4) : Memref sig .tc .vmem S4096x256 .f32 :=
  (arg4.slice (slotW k) (fun _ => rfl)).squeeze S4096x256 squeezes_S1x4096x256_S4096x256

/-- Slot `i` of the buffer of tiles, as a matrix. -/
abbrev ySlot (i : Fin 31) : Memref sig .tc .vmem S128x256 .f32 :=
  (arg5.slice (slotY i) (fun _ => rfl)).squeeze S128x256 squeezes_S1x128x256_S128x256

/-- The rows of the result that this device computes, on whichever device they lie. -/
abbrev oRows : Memref sig .tc .vmem S128x256 .f32 :=
  arg3.slice (Rect.unit (s := S4096x256) (k0_off4 v0) S128x256.size (k0_off4_inb v0 hw)) (fun _ => rfl)

/-- The cell of the copies into slot `k`. -/
abbrev copySem (k : Fin 4) : DmaSem sig :=
  ((arg6.slice (Rect.unit (s := S4) ![k.val] S1.size (sem4_inb k))).squeeze S_ squeezes_S1_S_).sem

/-- The cell of the sending of tile `i`. -/
abbrev sendSem (i : Fin 31) : DmaSem sig :=
  ((arg7.slice (Rect.unit (s := S31) ![i.val] S1.size (sem31_inb i))).squeeze S_ squeezes_S1_S_).sem

/-- The cell this device's tiles are announced on, at their receivers. -/
abbrev recvSem : DmaSem sig :=
  ((arg8.slice (Rect.unit (s := S32) (k0_off3 v0) S1.size (k0_off3_inb v0 hw))).squeeze S_ squeezes_S1_S_).sem

/-- The cell the tile of `src` is announced on. -/
abbrev recvSemOf (src : Fin 32) : DmaSem sig :=
  ((arg8.slice (Rect.unit (s := S32) ![src.val] S1.size (sem32_inb src))).squeeze S_ squeezes_S1_S_).sem

/-- One unit to the barrier of the device `i + 1` further round. -/
def signalStep (i : Fin 31) : KProg F PUnit :=
  semSignalWord (⟨devW v0 (i.val + 1), devW_lt v0 hw i⟩ : Dev nD) (SemArray.scalar (sig.barrier 0 rfl) : Sems sig S_).sem 1#32

/-- The wait for a unit of every other device. -/
def barrierStep : KProg F PUnit := semWaitWord (SemArray.scalar (sig.barrier 0 rfl) : Sems sig S_).sem 31#32

/-- The copy of the columns of the device `s` further round into slot `k` is started. -/
def startStep (k : Fin 4) (s : Fin 32) : KProg F PUnit :=
  Prog.lift (.enqueueDma (wCols arg2 v0 hw s) (.here (wSlot arg4 k)) (.dma (copySem arg6 k))
    (View.wordExact_bits rfl) ((View.wordExact_bits rfl).reshape _ _) ⟨Or.inl rfl, trivial⟩)

/-- The device's rows are loaded. -/
def rowsStep : KProg F (Vec F S128x4096 .f32) :=
  Prog.lift (.load arg1 (Rect.unit (s := S128x4096) ![0, 0] S128x4096.size inb_S128x4096_S128x4096_0_0).toLoadRect
    (View.loadsAt_vmem h_S128x4096))

/-- The wait for the copy into slot `k`. -/
def waitStep (k : Fin 4) (s : Fin 32) : KProg F PUnit :=
  Prog.lift (.waitDma2 (copySem arg6 k) (wCols arg2 v0 hw s) (wSlot arg4 k) (View.wordExact_bits rfl)
    ((View.wordExact_bits rfl).reshape _ _))

/-- Slot `k` is loaded. -/
def slotStep (k : Fin 4) : KProg F (Vec F S1x4096x256 .f32) :=
  Prog.lift (.load arg4 (slotW k).toLoadRect (View.loadsAt_vmem h_S1x4096x256))

/-- The device's own tile: computed from slot 0 and stored in its rows of its own result. -/
def ownStep (x : Vec F S128x4096 .f32) : KProg F PUnit := do
  waitStep arg2 arg4 arg6 v0 hw 0 0
  let w ← slotStep arg4 0
  let _ ← Prog.lift (.load arg3 (Rect.unit (s := S4096x256) (k0_off2 v0) S128x256.size (k0_off2_inb v0 hw)).toLoadRect
    (View.loadsAt_vmem h_S128x256))
  Prog.lift (.store arg3 (Rect.unit (s := S4096x256) (k0_off2 v0) S128x256.size (k0_off2_inb v0 hw))
    (geluTile (prodTile (rowsB x) w)) Finset.univ (View.stores_vmem_bits_univ h_S128x256 rfl) (.inl rfl))

/-- The tile of the device `i + 1` further round: computed from slot `k`, stored in slot `i` of the buffer of tiles,
    and sent off to its place in that device's result. -/
def tileStep (x : Vec F S128x4096 .f32) (k : Fin 4) (i : Fin 31) : KProg F PUnit := do
  waitStep arg2 arg4 arg6 v0 hw k i.succ
  let w ← slotStep arg4 k
  let _ ← Prog.lift (.load arg5 (slotY i).toLoadRect (View.loadsAt_vmem h_S1x128x256))
  Prog.lift (.store arg5 (slotY i) (shapeCast S1x128x256 (geluTile (prodTile (rowsB x) w)) shapeCasts_S128x256_S1x128x256)
    Finset.univ (View.stores_vmem_bits_univ h_S1x128x256 rfl) (.inl rfl))
  Prog.lift (.enqueueDma (ySlot arg5 i)
    (.remote (Dev.tc (⟨devW v0 (i.val + 1), devW_lt v0 hw i⟩ : Dev nD)) (oRows arg3 v0 hw) (.dma (sendSem arg7 i)))
    (.dma (recvSem arg8 v0 hw)) ((View.wordExact_bits rfl).reshape _ _) (View.wordExact_bits rfl) ⟨⟨rfl, Or.inl rfl⟩, trivial⟩)

/-- The wait for the tile of `src`, unless this device is `src`; then `k`. -/
def recvThen (src : Fin 32) (k : KProg F PUnit) : KProg F PUnit :=
  if Scalar.cmpi .ne (Scalar.extui (Scalar.cmpi .ne v0 (BitVec.ofNat 32 src.val)) : BitVec 32) 0#32 = 1#1 then
    Prog.lift (.waitDma2 (recvSemOf arg8 src) (ySlot arg5 0)
      (arg3.slice (Rect.unit (s := S4096x256) ![0, 0] S128x256.size inb_S4096x256_S128x256_0_0) (fun _ => rfl))
      ((View.wordExact_bits rfl).reshape _ _) (View.wordExact_bits rfl)) >>= fun _ => k
  else k

/-- The waits for the tiles of the devices in a list; then `k`. -/
def recvAll (k : KProg F PUnit) : List (Fin 32) → KProg F PUnit
  | [] => k
  | src :: l => recvThen arg3 arg5 arg8 v0 src (recvAll k l)

/-- The wait for tile `i` to have been sent. -/
def sentStep (i : Fin 31) : KProg F PUnit :=
  Prog.lift (.waitDma2 (sendSem arg7 i) (oRows arg3 v0 hw) (ySlot arg5 i) (View.wordExact_bits rfl)
    ((View.wordExact_bits rfl).reshape _ _))

end Steps

/-- A list of programs, run one after the other. -/
def runAll {A : Type} (p : A → KProg F PUnit) : List A → KProg F PUnit
  | [] => pure ⟨⟩
  | a :: l => p a >>= fun _ => runAll p l

/-- What one turn of the main loop does: start the copy of a later block (if there is one), then finish one tile. -/
inductive Turn
  /-- Start the copy of block `s` into slot `k`. -/
  | start (k : Fin 4) (s : Fin 32)
  /-- Finish tile `i` from slot `k`. -/
  | tile (k : Fin 4) (i : Fin 31)

/-- The tiles in the order they are sent: the farthest devices first. -/
def tileOrder : List (Fin 31) :=
  [15, 14, 16, 13, 17, 12, 18, 11, 19, 10, 20, 9, 21, 8, 22, 7, 23, 6, 24, 5, 25, 4, 26, 3, 27, 2, 28, 1, 29, 0, 30]

/-- The main loop's turns from the second on: three copies are in flight while a tile is computed. -/
def turns : List Turn :=
  [.start 0 14, .tile 1 15, .start 1 18, .tile 2 14, .start 2 13, .tile 3 16, .start 3 19, .tile 0 13,
   .start 0 12, .tile 1 17, .start 1 20, .tile 2 12, .start 2 11, .tile 3 18, .start 3 21, .tile 0 11,
   .start 0 10, .tile 1 19, .start 1 22, .tile 2 10, .start 2 9, .tile 3 20, .start 3 23, .tile 0 9,
   .start 0 8, .tile 1 21, .start 1 24, .tile 2 8, .start 2 7, .tile 3 22, .start 3 25, .tile 0 7,
   .start 0 6, .tile 1 23, .start 1 26, .tile 2 6, .start 2 5, .tile 3 24, .start 3 27, .tile 0 5,
   .start 0 4, .tile 1 25, .start 1 28, .tile 2 4, .start 2 3, .tile 3 26, .start 3 29, .tile 0 3,
   .start 0 2, .tile 1 27, .start 1 30, .tile 2 2, .start 2 1, .tile 3 28, .start 3 31, .tile 0 1,
   .tile 1 29, .tile 2 0, .tile 3 30]

section Body

variable (arg0 : Memref sig .tc .smem S1 .i32) (arg1 : Memref sig .tc .vmem S128x4096 .f32) (arg2 : Memref sig .tc .hbm S4096x8192 .f32)
  (arg3 : Memref sig .tc .vmem S4096x256 .f32) (arg4 : Memref sig .tc .vmem S4x4096x256 .f32)
  (arg5 : Memref sig .tc .vmem S31x128x256 .f32) (arg6 : DmaSems sig S4) (arg7 : DmaSems sig S31) (arg8 : DmaSems sig S32)

/-- One turn of the main loop. -/
def turnStep (v0 : BitVec 32) (hw : k0_chk1 v0) (x : Vec F S128x4096 .f32) : Turn → KProg F PUnit
  | .start k s => startStep arg2 arg4 arg6 v0 hw k s
  | .tile k i => tileStep arg2 arg3 arg4 arg5 arg6 arg7 arg8 v0 hw x k i

/-- The body up to the last four waits, which it returns the device's number to. -/
def headSteps : KProg F (Σ' (v0 : Elt F .i32), k0_chk1 v0) := do
  let v0 : Elt F .i32 ← smemLoad arg0 (Rect.unit (s := S1) ![0] S1.size inb_S1_S1_0) numel1_S1 rfl
  have hw : k0_chk1 v0 := (← Prog.lift (TpuEff.assume (k0_chk1 v0) (k0_chk1.dec v0))).down
  runAll (signalStep v0 hw) [0, 1, 2, 3, 4, 5, 6, 7, 8, 9, 10, 11, 12, 13, 14, 15, 16, 17, 18, 19, 20, 21, 22, 23, 24, 25,
    26, 27, 28, 29, 30]
  barrierStep
  startStep arg2 arg4 arg6 v0 hw 0 0
  startStep arg2 arg4 arg6 v0 hw 1 16
  startStep arg2 arg4 arg6 v0 hw 2 15
  let x ← rowsStep arg1
  startStep arg2 arg4 arg6 v0 hw 3 17
  ownStep arg2 arg3 arg4 arg6 v0 hw x
  runAll (turnStep arg2 arg3 arg4 arg5 arg6 arg7 arg8 v0 hw x) turns
  recvAll arg3 arg5 arg8 v0 (pure ⟨⟩) [0, 1, 2, 3, 4, 5, 6]
  recvAll arg3 arg5 arg8 v0 (pure ⟨⟩) [7, 8, 9, 10, 11, 12, 13, 14, 15, 16]
  recvAll arg3 arg5 arg8 v0 (pure ⟨⟩) [17, 18, 19, 20, 21, 22, 23, 24, 25, 26]
  recvAll arg3 arg5 arg8 v0 (runAll (sentStep arg3 arg5 arg7 v0 hw) [15, 14]) [27, 28, 29, 30, 31]
  runAll (sentStep arg3 arg5 arg7 v0 hw) [16, 13, 17, 12, 18, 11, 19, 10, 20, 9, 21, 8, 22, 7, 23, 6, 24, 5, 25, 4, 26, 3, 27,
    2, 28]
  pure ⟨v0, hw⟩

variable (harg0 : arg0.IsWhole) (harg1 : arg1.IsWhole) (harg2 : arg2.IsWhole) (harg3 : arg3.IsWhole) (harg4 : arg4.IsWhole)
  (harg5 : arg5.IsWhole)

set_option maxRecDepth 65536 in
set_option maxHeartbeats 0 in
/-- The printed body up to its last four waits is `headSteps`. -/
theorem head_eq : k0_part58 (F := F) arg0 harg0 arg1 harg1 arg2 harg2 arg3 harg3 arg4 harg4 arg5 harg5 arg6 arg7 arg8
    = headSteps arg0 arg1 arg2 arg3 arg4 arg5 arg6 arg7 arg8 := rfl

set_option maxRecDepth 65536 in
/-- The printed body is its head and the last four waits. -/
theorem body_eq : cc0_body (F := F) arg0 harg0 arg1 harg1 arg2 harg2 arg3 harg3 arg4 harg4 arg5 harg5 arg6 arg7 arg8
    = (k0_part58 (F := F) arg0 harg0 arg1 harg1 arg2 harg2 arg3 harg3 arg4 harg4 arg5 harg5 arg6 arg7 arg8 >>= fun r =>
        runAll (sentStep arg3 arg5 arg7 r.1 r.2) [1, 29, 0, 30]) := rfl

end Body

end Cert.KernelIdeal.Gen
-- ==== Proof.Geometry.lean ====
/- The ring of devices, the addresses the kernel computes from a device's number, and the parts of its
   buffers that those addresses name. -/
module

public import proofs.«01_k».proof.Proof.Steps

@[expose] public section

set_option synthInstance.maxSize 4096

noncomputable section

namespace Cert.KernelIdeal.Talk

open Idealize.ShloMosaic Idealize.SL.Sem Cert.KernelIdeal Cert.KernelIdeal.Gen

/-! ## Devices -/

/-- The device `i + 1` further round from `c`. -/
def peer (c : Dev nD) (i : Fin 31) : Dev nD := ⟨(c.val + i.val + 1) % 32, Nat.mod_lt _ (by decide)⟩

/-- The device whose `peer` at distance `i` is `c`. -/
def back (c : Dev nD) (i : Fin 31) : Dev nD := ⟨(c.val + 31 - i.val) % 32, Nat.mod_lt _ (by decide)⟩

theorem peer_back (c : Dev nD) (i : Fin 31) : peer (back c i) i = c := by
  have h := c.isLt
  have h' : c.val < 32 := h
  apply Fin.ext
  simp only [peer, back]
  omega

theorem back_peer (c : Dev nD) (i : Fin 31) : back (peer c i) i = c := by
  have h' : c.val < 32 := c.isLt
  apply Fin.ext
  simp only [peer, back]
  omega

/-- The turn of the ring by `i + 1` places. -/
def turn (i : Fin 31) : Dev nD ≃ Dev nD := ⟨fun c => peer c i, fun c => back c i, fun c => back_peer c i, fun c => peer_back c i⟩

theorem peer_ne (c : Dev nD) (i : Fin 31) : peer c i ≠ c := by
  intro h
  have h' : c.val < 32 := c.isLt
  have := congrArg Fin.val h
  simp only [peer] at this
  omega

theorem peer_inj (c : Dev nD) : Function.Injective (peer c) := by
  intro i j h
  have h' : c.val < 32 := c.isLt
  have := congrArg Fin.val h
  simp only [peer] at this
  apply Fin.ext
  omega

/-- The other devices, by their distance. -/
def peerEmb (c : Dev nD) : Fin 31 ↪ Dev nD := ⟨peer c, peer_inj c⟩

theorem peers (c : Dev nD) : (Finset.univ.erase c : Finset (Dev nD)) = Finset.univ.map (peerEmb c) := by
  ext j
  simp only [Finset.mem_erase, Finset.mem_univ, and_true, Finset.mem_map, true_and]
  constructor
  · intro h
    have h1 : c.val < 32 := c.isLt
    have h2 : j.val < 32 := j.isLt
    have h3 : j.val ≠ c.val := fun e => h (Fin.ext e)
    refine ⟨⟨(j.val + 32 - c.val) % 32 - 1, by omega⟩, Fin.ext ?_⟩
    simp only [peerEmb, Function.Embedding.coeFn_mk, peer]
    omega
  · rintro ⟨i, rfl⟩
    exact peer_ne c i

/-! ## The device's number as a word, and what is computed from it -/

/-- The number of a device. -/
def wd (c : Dev nD) : BitVec 32 := BitVec.ofNat 32 c.val

set_option maxRecDepth 100000 in
set_option maxHeartbeats 0 in
theorem chk (c : Dev nD) : k0_chk1 (wd c) := by
  revert c; decide

theorem devW_wd : ∀ (c : Dev nD) (s : Fin 32), devW (wd c) s.val = (c.val + s.val) % 32 := by decide

theorem dev_eq (c : Dev nD) (hw : k0_chk1 (wd c)) (i : Fin 31) :
    (⟨devW (wd c) (i.val + 1), devW_lt (wd c) hw i⟩ : Dev nD) = peer c i :=
  Fin.ext (devW_wd c i.succ)

/-- The block of columns the device `s` further round is to have. -/
theorem off1_wd : ∀ (c : Dev nD) (s : Fin 32), k0_off1 (wd c) (BitVec.ofNat 32 s.val) = ![0, 256 * ((c.val + s.val) % 32)] := by
  decide

theorem off4_wd : ∀ c : Dev nD, k0_off4 (wd c) = ![128 * c.val, 0] := by decide
theorem off2_wd : ∀ c : Dev nD, k0_off2 (wd c) = ![128 * c.val, 0] := by decide
theorem off3_wd : ∀ c : Dev nD, k0_off3 (wd c) = ![c.val] := by decide

/-- Whether a device waits for the tile of `src`: it does unless it is `src`. -/
theorem waits_iff : ∀ (c : Dev nD) (src : Fin 32),
    (Scalar.cmpi .ne (Scalar.extui (Scalar.cmpi .ne (wd c) (BitVec.ofNat 32 src.val)) : BitVec 32) 0#32 = 1#1) ↔ src ≠ c := by
  decide

/-! ## Cells -/

theorem copySem_eq : ∀ k : Fin 4, copySem cc0_scratch2 k = (⟨3 + k.val, by omega⟩ : Fin 70) := by decide
theorem sendSem_eq : ∀ i : Fin 31, sendSem cc0_scratch3 i = (⟨7 + i.val, by omega⟩ : Fin 70) := by decide
theorem recvSemOf_eq : ∀ i : Fin 32, recvSemOf cc0_scratch4 i = (⟨38 + i.val, by omega⟩ : Fin 70) := by decide

end Cert.KernelIdeal.Talk

end
-- ==== Proof.Parts.lean ====
/- The parts of the kernel's buffers: the result's window is cut into the rows of the 32 senders, the
   buffer of tiles into its 31 slots, the buffer of weights into its 4 slots. What the device computes,
   tile by tile, and what each part holds. -/
module

public import proofs.«01_k».proof.Proof.Geometry
public import Idealize.ShloMosaic.Lib.Pipeline.ValueKit.Geometry
public import Idealize.ShloMosaic.Lib.ViewIndex

@[expose] public section

set_option synthInstance.maxSize 4096

noncomputable section

namespace Cert.KernelIdeal.Talk

open Idealize.ShloMosaic Idealize.SL.Sem Cert.KernelIdeal Cert.KernelIdeal.Gen

variable {F : FTy → Type} [FloatOps F]

/-! ## The buffers -/

abbrev posM : Memref sig .tc .smem S1 .i32 := Memref.whole cc0_stg0_0
abbrev xM : Memref sig .tc .vmem S128x4096 .f32 := Memref.whole cc0_stg1_0
abbrev wM : Memref sig .tc .hbm S4096x8192 .f32 := Memref.whole main_arg1
abbrev oM : Memref sig .tc .vmem S4096x256 .f32 := Memref.whole cc0_stg2_0
abbrev wbM : Memref sig .tc .vmem S4x4096x256 .f32 := Memref.whole cc0_scratch0
abbrev ybM : Memref sig .tc .vmem S31x128x256 .f32 := Memref.whole cc0_scratch1

/-! ## The parts -/

/-- The rows of the result that come from `src`. -/
abbrev oPart (src : Dev nD) : Memref sig .tc .vmem S128x256 .f32 := oRows oM (wd src) (chk src)
/-- A slot of the buffer of tiles. -/
abbrev yPart (i : Fin 31) : Memref sig .tc .vmem S128x256 .f32 := ySlot ybM i
/-- A slot of the buffer of weights. -/
abbrev wPart (k : Fin 4) : Memref sig .tc .vmem S4096x256 .f32 := wSlot wbM k

/-- The elements of those parts. -/
abbrev oSet (src : Dev nD) : Finset S4096x256.Idx := (oPart src).view.set
abbrev ySet (i : Fin 31) : Finset S31x128x256.Idx := (yPart i).view.set
abbrev wSet (k : Fin 4) : Finset S4x4096x256.Idx := (wPart k).view.set

theorem mem_oPart (src : Dev nD) (i : S4096x256.Idx) : i ∈ oSet src ↔ 128 * src.val ≤ (i 0).val ∧ (i 0).val < 128 * src.val + 128 := by
  refine ValueKit.mem_set_slice_whole_iff cc0_stg2_0 _ i (Rect.mem_set_unit.trans ?_)
  simp only [off4_wd]
  constructor
  · intro h; exact h 0
  · intro h a
    match a with
    | 0 => exact h
    | 1 => exact ⟨Nat.zero_le _, by have := (i 1).isLt; simpa using this⟩

theorem mem_yPart (k : Fin 31) (i : S31x128x256.Idx) : i ∈ ySet k ↔ (i 0 : Fin 31) = k := by
  have e : ySet k = ((View.whole cc0_scratch1).slice (slotY k)).set := Memref.set_view_squeeze (ybM.slice (slotY k) (fun _ => rfl)) squeezes_S1x128x256_S128x256
  refine (e ▸ Iff.rfl : i ∈ ySet k ↔ i ∈ ((View.whole cc0_scratch1).slice (slotY k)).set).trans ?_
  refine ValueKit.mem_set_slice_whole_iff cc0_scratch1 _ i (Rect.mem_set_unit.trans ?_)
  constructor
  · intro h
    have h0 : k.val ≤ (i 0).val ∧ (i 0).val < k.val + 1 := h 0
    exact Fin.ext (by omega)
  · rintro h a
    match a with
    | 0 => subst h; exact ⟨le_rfl, Nat.lt_succ_self _⟩
    | 1 => exact ⟨Nat.zero_le _, by have := (i 1).isLt; simpa using this⟩
    | 2 => exact ⟨Nat.zero_le _, by have := (i 2).isLt; simpa using this⟩

theorem mem_wPart (k : Fin 4) (i : S4x4096x256.Idx) : i ∈ wSet k ↔ (i 0 : Fin 4) = k := by
  have e : wSet k = ((View.whole cc0_scratch0).slice (slotW k)).set := Memref.set_view_squeeze (wbM.slice (slotW k) (fun _ => rfl)) squeezes_S1x4096x256_S4096x256
  refine (e ▸ Iff.rfl : i ∈ wSet k ↔ i ∈ ((View.whole cc0_scratch0).slice (slotW k)).set).trans ?_
  refine ValueKit.mem_set_slice_whole_iff cc0_scratch0 _ i (Rect.mem_set_unit.trans ?_)
  constructor
  · intro h
    have h0 : k.val ≤ (i 0).val ∧ (i 0).val < k.val + 1 := h 0
    exact Fin.ext (by omega)
  · rintro h a
    match a with
    | 0 => subst h; exact ⟨le_rfl, Nat.lt_succ_self _⟩
    | 1 => exact ⟨Nat.zero_le _, by have := (i 1).isLt; simpa using this⟩
    | 2 => exact ⟨Nat.zero_le _, by have := (i 2).isLt; simpa using this⟩

theorem oPart_disjoint : Set.PairwiseDisjoint (↑(Finset.univ : Finset (Dev nD))) oSet := by
  intro a _ b _ hab
  refine Finset.disjoint_left.mpr fun i h₁ h₂ => hab (Fin.ext ?_)
  have h₁ := (mem_oPart a i).mp h₁
  have h₂ := (mem_oPart b i).mp h₂
  omega

theorem oPart_cover : (Finset.univ : Finset (Dev nD)).biUnion oSet = Finset.univ := by
  ext i
  simp only [Finset.mem_biUnion, Finset.mem_univ, true_and, iff_true]
  have h : (i 0).val < 4096 := (i 0).isLt
  exact ⟨⟨(i 0).val / 128, by show _ < 32; omega⟩, (mem_oPart _ i).mpr ⟨by dsimp only; omega, by dsimp only; omega⟩⟩

theorem yPart_disjoint : Set.PairwiseDisjoint (↑(Finset.univ : Finset (Fin 31))) ySet := by
  intro a _ b _ hab
  exact Finset.disjoint_left.mpr fun i h₁ h₂ => hab (((mem_yPart a i).mp h₁).symm.trans ((mem_yPart b i).mp h₂))

theorem yPart_cover : (Finset.univ : Finset (Fin 31)).biUnion ySet = Finset.univ := by
  ext i
  simp only [Finset.mem_biUnion, Finset.mem_univ, true_and, iff_true]
  exact ⟨i 0, (mem_yPart _ i).mpr rfl⟩

theorem wPart_disjoint : Set.PairwiseDisjoint (↑(Finset.univ : Finset (Fin 4))) wSet := by
  intro a _ b _ hab
  exact Finset.disjoint_left.mpr fun i h₁ h₂ => hab (((mem_wPart a i).mp h₁).symm.trans ((mem_wPart b i).mp h₂))

theorem wPart_cover : (Finset.univ : Finset (Fin 4)).biUnion wSet = Finset.univ := by
  ext i
  simp only [Finset.mem_biUnion, Finset.mem_univ, true_and, iff_true]
  exact ⟨i 0, (mem_wPart _ i).mpr rfl⟩

/-! ## What is computed -/

/-- The place in the block of columns of device `d` within the weights. -/
def colIdx (d : Dev nD) (j : S4096x256.Idx) : S4096x8192.Idx
  | 0 => ⟨(j 0).val, (j 0).isLt⟩
  | 1 => ⟨256 * d.val + (j 1).val, by have h : d.val < 32 := d.isLt; have h' : (j 1).val < 256 := (j 1).isLt; show _ < 8192; omega⟩

/-- The block of columns of the weights `W` that belongs to device `d`. -/
def colsOf (d : Dev nD) (W : S4096x8192.Idx → F .f32) : S4096x256.Idx → F .f32 := fun j => W (colIdx d j)

/-- The tile that rows `X` and weights `W` give for device `d`. -/
def tileOf (d : Dev nD) (X : Vec F S128x4096 .f32) (W : S4096x8192.Idx → F .f32) : FVec F S128x256 .f32 :=
  geluTile (matmul dot_S128x4096_S4096x256_S128x256_1_0_0_1_n_n none (rowsB X) (truncf .bf16 (colsOf d W : FVec F S4096x256 .f32) bitsLt_bf16_f32)
    (constant S128x256 .f32 0x00000000#32))

/-- The place within its sender's tile of a place in the result. -/
def inTile (i : S4096x256.Idx) : S128x256.Idx
  | 0 => ⟨(i 0).val % 128, Nat.mod_lt _ (by decide)⟩
  | 1 => ⟨(i 1).val, (i 1).isLt⟩

/-- The sender of a place in the result. -/
def sender (i : S4096x256.Idx) : Dev nD := ⟨(i 0).val / 128, by have h : (i 0).val < 4096 := (i 0).isLt; show _ < 32; omega⟩

/-- What device `d`'s window holds at the end: the rows of each sender are that sender's tile for `d`. -/
def resultOf (X : Dev nD → Vec F S128x4096 .f32) (W : Dev nD → S4096x8192.Idx → F .f32) (d : Dev nD) : S4096x256.Idx → F .f32 :=
  fun i => tileOf d (X (sender i)) (W (sender i)) (inTile i)

/-! ## Reading and writing the parts -/

/-- Where the elements of a sender's rows lie. -/
theorem oPart_emb (src : Dev nD) (j : S128x256.Idx) : sender ((oPart src).view.emb j) = src ∧ inTile ((oPart src).view.emb j) = j := by
  have h (a : Fin 2) : ((((oPart src).view.emb j) a : Fin _) : ℕ) = (![128 * src.val, 0] : Fin 2 → ℕ) a + (j a).val := by
    rw [← off4_wd src]
    exact ValueKit.view_emb_slice_whole_unit_val cc0_stg2_0 _ _ _ j a
  have h0 : (((oPart src).view.emb j) 0 : ℕ) = 128 * src.val + (j 0).val := h 0
  have h1 : (((oPart src).view.emb j) 1 : ℕ) = 0 + (j 1).val := h 1
  have hj : (j 0).val < 128 := (j 0).isLt
  constructor
  · apply Fin.ext
    show (((oPart src).view.emb j) 0 : ℕ) / 128 = _
    rw [h0]; omega
  · funext a
    match a with
    | 0 =>
      apply Fin.ext
      show (((oPart src).view.emb j) 0 : ℕ) % 128 = _
      rw [h0]; omega
    | 1 =>
      apply Fin.ext
      show (((oPart src).view.emb j) 1 : ℕ) = _
      rw [h1]; omega

/-- A sender's tile written over its rows makes them what they are to hold. -/
theorem oPart_write (X : Dev nD → Vec F S128x4096 .f32) (W : Dev nD → S4096x8192.Idx → F .f32) (d src : Dev nD)
    (f : S4096x256.Idx → F .f32) (v : S128x256.Idx → F .f32) (hv : v = tileOf d (X src) (W src)) :
    ∀ i ∈ (oPart src).view.set, (oPart src).view.write (Elt F) f v Finset.univ i = resultOf X W d i := by
  intro i hi
  obtain ⟨j, -, rfl⟩ := Finset.mem_map.mp hi
  have h := oPart_emb src j
  refine (View.write_emb_of_mem (Val := Elt F) (v := (oPart src).view) f v (Finset.mem_univ j)).trans ?_
  subst hv
  unfold resultOf
  rw [h.1, h.2]
  rfl

/-- The columns a device copies for the one `s` further round are those that belong to it. -/
theorem wCols_read (c : Dev nD) (s : Fin 32) (d : Dev nD) (hd : d.val = (c.val + s.val) % 32) (W : S4096x8192.Idx → F .f32) :
    (wCols wM (wd c) (chk c) s).view.read (Elt F) W = colsOf d W := by
  funext j
  rw [View.read_apply]
  show W ((wCols wM (wd c) (chk c) s).view.emb j) = W (colIdx d j)
  congr 1
  have h (a : Fin 2) : ((((wCols wM (wd c) (chk c) s).view.emb j) a : Fin _) : ℕ) = (![0, 256 * ((c.val + s.val) % 32)] : Fin 2 → ℕ) a + (j a).val := by
    rw [← off1_wd c s]
    exact ValueKit.view_emb_slice_whole_unit_val main_arg1 _ _ _ j a
  funext a
  match a with
  | 0 => apply Fin.ext; exact (h 0).trans (Nat.zero_add _)
  | 1 => apply Fin.ext; exact (h 1).trans (by show 256 * _ + _ = 256 * d.val + _; rw [hd])

end Cert.KernelIdeal.Talk

end
-- ==== Proof.Protocol.lean ====
/- What the devices agree on. Every device has a barrier cell, a cell for each tile it sends and a cell
   for each device it receives from.

   * The barrier cell of `c` gets one unit from every other device `j`, and with it the rows `c` is to
     write in `j`'s window, and the word that `j` has opened the cell on which it waits for `c`'s tile.
   * The cell of `c` for its tile `i` is raised when that tile has been read, and gives back the slot.
   * The cell of `c` for the device `src` is raised when `src`'s tile has landed, and gives back the rows
     of `src` in `c`'s window, holding that tile.

   A device owes at launch the units of the others' barrier cells and the credit of its 31 tiles on the
   receivers' cells. Barrier cells have level 1, receive cells level 2, all other cells level 0. -/
module

public import proofs.«01_k».proof.Proof.Parts
public import proofs.«01_k».proof.Proof.Gen.KernelIdeal.Regions
public import Idealize.ShloMosaic.Lib.Pipeline.RegionTalk
public import Idealize.ShloMosaic.Lib.Pipeline.Kit
public import Idealize.ShloMosaic.Lib.Rounds
public import Idealize.ShloMosaic.Lib.Transfers

@[expose] public section

set_option synthInstance.maxSize 4096

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## The resource algebra: the staging cells' rounds, the devices' rounds, the local copies' counters -/

abbrev UP : Type := URounds (GSem nD τ sig) Unit
abbrev UT : Type := URounds (GSem nD τ sig) (Dev nD)
abbrev UU : Type := UP × (UT × Counters)

local notation "𝕄" => MT nD τ sig Unit (Elt F) ℕ UU ℕ

abbrev EP : Emb UP (MT nD τ sig Unit (Elt F) ℕ UU ℕ) := embL
/-- The devices' rounds: the left half of the right factor. -/
def ER : Emb UT (MT nD τ sig Unit (Elt F) ℕ UU ℕ) :=
  ((Emb.inl : Emb UT (UT × Counters)).trans (Emb.inr : Emb (UT × Counters) UU)).trans
    (uEmb (nD := nD) (sig := sig) (Ix := Unit) (Val := Elt F) (Name := ℕ) (U := UU) (Lvl := ℕ)).toEmb
instance ER_landsIn : (ER : Emb UT 𝕄).LandsIn (upEmb : UEmb _ 𝕄) := by unfold ER; infer_instance

/-! ## Cells -/

abbrev barS : Sem sig := (SemArray.scalar (sig.barrier 0 rfl) : Sems sig S_).sem

abbrev barCell (c : Dev nD) : GSem nD τ sig := ((c : Thread nD τ), .reg barS)
abbrev sendCell (c : Dev nD) (i : Fin 31) : GSem nD τ sig := ((c : Thread nD τ), .dma (sendSem cc0_scratch3 i))
abbrev recvCell (c : Dev nD) (src : Fin 32) : GSem nD τ sig := ((c : Thread nD τ), .dma (recvSemOf cc0_scratch4 src))
abbrev copyCell (c : Dev nD) (k : Fin 4) : GSem nD τ sig := ((c : Thread nD τ), .dma (copySem cc0_scratch2 k))

/-- What a semaphore is for. -/
inductive Use
  /-- The barrier. -/
  | bar
  /-- The sending of tile `i`. -/
  | send (i : Fin 31)
  /-- The arrival of the tile of `src`. -/
  | recv (src : Fin 32)
  /-- Copies within a device. -/
  | copies
deriving DecidableEq

/-- What each semaphore is for. -/
def useOf : SemLoc sig → Use
  | .reg _ => .bar
  | .dma d => if h : 38 ≤ (show Fin 70 from d).val then .recv ⟨(show Fin 70 from d).val - 38, by omega⟩
      else if h' : 7 ≤ (show Fin 70 from d).val then .send ⟨(show Fin 70 from d).val - 7, by omega⟩ else .copies

theorem use_bar : useOf (.reg barS) = .bar := rfl
theorem use_send : ∀ i : Fin 31, useOf (.dma (sendSem cc0_scratch3 i)) = .send i := by decide
theorem use_recv : ∀ i : Fin 32, useOf (.dma (recvSemOf cc0_scratch4 i)) = .recv i := by decide
theorem use_copy : ∀ k : Fin 4, useOf (.dma (copySem cc0_scratch2 k)) = .copies := by decide

/-- The cell `c`'s tiles are announced on. -/
theorem recvSem_eq : ∀ (c : Dev nD) (hw : k0_chk1 (wd c)), recvSem cc0_scratch4 (wd c) hw = recvSemOf cc0_scratch4 c := by
  intro c _
  revert c
  decide

/-- The credit of one tile. -/
def N : ℕ := (oPart 0).view.dmaCredit
theorem N_pos : 0 < N := View.dmaCredit_pos (oPart 0).view (by decide)
theorem credit_o (c : Dev nD) : (oPart c).view.dmaCredit = N := rfl
theorem credit_y (i : Fin 31) : (yPart i).view.dmaCredit = N := rfl
/-- The credit of one block of columns of the weights. -/
def NW : ℕ := (wPart 0).view.dmaCredit
theorem NW_pos : 0 < NW := View.dmaCredit_pos (wPart 0).view (by decide)
theorem credit_w (k : Fin 4) : (wPart k).view.dmaCredit = NW := rfl

/-! ## Points-tos -/

variable (X : Dev nD → Vec F S128x4096 .f32) (W : Dev nD → S4096x8192.Idx → F .f32)

/-- The rows of `src` in `j`'s window, at `f`. -/
abbrev oPts (j src : Dev nD) (f : S4096x256.Idx → F .f32) : sProp 𝕄 :=
  (oPart src).view.loc (j : Thread nD τ) ↦[(oPart src).view.set]{fullShare} f
/-- A slot of tiles, at `f`. -/
abbrev yPts (c : Dev nD) (i : Fin 31) (f : S31x128x256.Idx → F .f32) : sProp 𝕄 :=
  (yPart i).view.loc (c : Thread nD τ) ↦[(yPart i).view.set]{fullShare} f
/-- A slot of weights, at `f`. -/
abbrev wPts (c : Dev nD) (k : Fin 4) (f : S4x4096x256.Idx → F .f32) : sProp 𝕄 :=
  (wPart k).view.loc (c : Thread nD τ) ↦[(wPart k).view.set]{fullShare} f

/-! ## The schedule -/

/-- With `j`'s unit on `c`'s barrier: `c`'s rows in `j`'s window, and that `j` has opened its cell for `c`. -/
def barPay (c j : Dev nD) : sProp 𝕄 := iprop((∃ f, oPts j c f) ∗ reached ER (recvCell j c) 0)
/-- With the end of the sending of tile `i`: its slot. -/
def sendPay (c : Dev nD) (i : Fin 31) : sProp 𝕄 := iprop(∃ f, yPts (F := F) c i f)
/-- With the arrival of `src`'s tile at `j`: `src`'s rows, holding it. -/
def recvPay (j src : Dev nD) : sProp 𝕄 := oPts j src (resultOf X W j)

/-- The duties, each named by the device that pays it. -/
def dutiesOf (c : Dev nD) : Use → Finset (Dev nD)
  | .bar => Finset.univ.erase c
  | .send _ => {c}
  | .recv src => if src = c then ∅ else {src}
  | .copies => ∅

/-- What a duty hands over. -/
def payOf (c : Dev nD) (d : Dev nD) : Use → sProp 𝕄
  | .bar => barPay c d
  | .send i => sendPay c i
  | .recv src => recvPay X W c src
  | .copies => iprop(emp)

def talkRd : Rounds.Schedule (GSem nD τ sig) (Dev nD) 𝕄 where
  duties g r := if r = 0 ∧ g.1.2 = .tc then dutiesOf g.1.1 (useOf g.2) else ∅
  unitless _ := False
  amount g _ _ := if useOf g.2 = .bar then 1 else N
  payload g _ d := payOf X W g.1.1 d (useOf g.2)
  amount_pos g _ _ _ := by
    by_cases h : useOf g.2 = .bar
    · rw [if_pos h]; exact Nat.one_pos
    · rw [if_neg h]; exact N_pos

instance talkRd_payload_storable (g : GSem nD τ sig) (r : ℕ) (d : Dev nD) :
    BI.Storable (upEmb : UEmb _ 𝕄) ((talkRd X W).payload g r d) := by
  show BI.Storable upEmb (payOf X W g.1.1 d (useOf g.2))
  cases useOf g.2 <;> simp only [payOf, barPay, sendPay, recvPay] <;> infer_instance

theorem duties_zero (c : Dev nD) (sm : SemLoc sig) : (talkRd X W).duties ((c : Thread nD τ), sm) 0 = dutiesOf c (useOf sm) := by
  dsimp only [talkRd]; exact if_pos ⟨rfl, rfl⟩
theorem duties_bar (c : Dev nD) : (talkRd X W).duties (barCell c) 0 = Finset.univ.erase c := duties_zero X W c _
theorem duties_send (c : Dev nD) (i : Fin 31) : (talkRd X W).duties (sendCell c i) 0 = {c} := by
  refine (duties_zero X W c _).trans ?_
  rw [use_send]; rfl
theorem duties_recv (c : Dev nD) (src : Fin 32) : (talkRd X W).duties (recvCell c src) 0 = if src = c then ∅ else {src} := by
  refine (duties_zero X W c _).trans ?_
  rw [use_recv]; rfl
theorem duties_later (g : GSem nD τ sig) : ∀ r, 1 ≤ r → (talkRd X W).duties g r = ∅ :=
  fun r hr => by dsimp only [talkRd]; exact if_neg fun h => by omega
theorem duties_own (c : Dev nD) : ∀ r, 0 ≤ r → (talkRd X W).duties (recvCell c c) r = ∅ := by
  intro r _
  by_cases h : r = 0
  · subst h; rw [duties_recv, if_pos rfl]
  · exact duties_later X W _ r (by omega)

theorem amount_bar (c d : Dev nD) : (talkRd X W).amount (barCell c) 0 d = 1 := by dsimp only [talkRd]; exact if_pos rfl
theorem amount_send (c : Dev nD) (i : Fin 31) (d : Dev nD) : (talkRd X W).amount (sendCell c i) 0 d = N := by
  dsimp only [talkRd]; exact if_neg (by rw [use_send]; exact fun h => Use.noConfusion h)
theorem amount_recv (c : Dev nD) (src : Fin 32) (d : Dev nD) : (talkRd X W).amount (recvCell c src) 0 d = N := by
  dsimp only [talkRd]; exact if_neg (by rw [use_recv]; exact fun h => Use.noConfusion h)

theorem expect_bar (c : Dev nD) : (talkRd X W).expect (barCell c) 0 = 31 := by
  unfold Schedule.expect Schedule.amountOf
  rw [duties_bar, Finset.sum_congr rfl fun d _ => amount_bar X W c d, Finset.sum_const, smul_eq_mul, Nat.mul_one,
    Finset.card_erase_of_mem (Finset.mem_univ c)]
  rfl
theorem expect_send (c : Dev nD) (i : Fin 31) : (talkRd X W).expect (sendCell c i) 0 = N := by
  unfold Schedule.expect Schedule.amountOf; rw [duties_send, Finset.sum_singleton, amount_send]
theorem expect_recv (c : Dev nD) (src : Fin 32) (h : src ≠ c) : (talkRd X W).expect (recvCell c src) 0 = N := by
  unfold Schedule.expect Schedule.amountOf; rw [duties_recv, if_neg h, Finset.sum_singleton, amount_recv]

theorem payload_bar (c d : Dev nD) : (talkRd X W).payload (barCell c) 0 d = barPay c d := rfl
theorem payload_send (c : Dev nD) (i : Fin 31) (d : Dev nD) : (talkRd X W).payload (sendCell c i) 0 d = sendPay c i := by
  show payOf X W c d (useOf _) = _
  rw [use_send]; rfl
theorem payload_recv (c : Dev nD) (src : Fin 32) (d : Dev nD) : (talkRd X W).payload (recvCell c src) 0 d = recvPay X W c src := by
  show payOf X W c d (useOf _) = _
  rw [use_recv]; rfl

/-- A whole round of the barrier cell: the rows in every other device's window. -/
theorem rest_bar (c : Dev nD) : bigSep ((talkRd X W).duties (barCell c) 0 \ ∅) (fun d => (talkRd X W).payload (barCell c) 0 d)
    = bigSep Finset.univ fun i : Fin 31 => barPay c (peer c i) := by
  rw [Finset.sdiff_empty, duties_bar, peers, bigSep_map]
  rfl
theorem rest_send (c : Dev nD) (i : Fin 31) : bigSep ((talkRd X W).duties (sendCell c i) 0 \ ∅) (fun d => (talkRd X W).payload (sendCell c i) 0 d)
    = sendPay c i := by
  rw [Finset.sdiff_empty, duties_send, bigSep_singleton, payload_send]
theorem rest_recv (c : Dev nD) (src : Fin 32) (h : src ≠ c) :
    bigSep ((talkRd X W).duties (recvCell c src) 0 \ ∅) (fun d => (talkRd X W).payload (recvCell c src) 0 d) = recvPay X W c src := by
  rw [Finset.sdiff_empty, duties_recv, if_neg h, bigSep_singleton, payload_recv]

/-! ## What a device owes; the levels -/

/-- The credit of the tiles in a list, on their receivers' cells. -/
def oweTiles (c : Dev nD) : List (Fin 31) → CellTallies nD τ sig Unit
  | [] => 0
  | i :: l => oweTiles c l + tallyAt (recvCell (peer c i) c) () N

/-- One unit on the barrier cell of every device in a list. -/
def oweBars (c : Dev nD) : List (Fin 31) → CellTallies nD τ sig Unit
  | [] => 0
  | i :: l => oweBars c l + tallyAt (barCell (peer c i)) () 1

/-- The distances in the order of the signals. -/
abbrev dists : List (Fin 31) :=
  [0, 1, 2, 3, 4, 5, 6, 7, 8, 9, 10, 11, 12, 13, 14, 15, 16, 17, 18, 19, 20, 21, 22, 23, 24, 25, 26, 27, 28, 29, 30]

/-- What a device owes at launch. -/
def O₀ (c : Dev nD) : CellTallies nD τ sig Unit := oweTiles c tileOrder + oweBars c dists

def L (g : GSem nD τ sig) : Finset Unit := if g.1.2 = .tc then {()} else ∅

def lvOf : Use → ℕ
  | .bar => 1
  | .recv _ => 2
  | _ => 0
def lv (g : GSem nD τ sig) (_ : Unit) : ℕ := lvOf (useOf g.2)

theorem L_of_ne (g : GSem nD τ sig) (h : g.1.2 ≠ .tc) : L g = ∅ := if_neg h
theorem L_tc (c : Dev nD) (sm : SemLoc sig) : L ((c : Thread nD τ), sm) = {()} := if_pos rfl

theorem oweTiles_cell (c : Dev nD) (g : GSem nD τ sig) (u : Unit) : ∀ l : List (Fin 31), 0 < oweTiles c l g u →
    ∃ i ∈ l, g = recvCell (peer c i) c
  | [], h => absurd h (Nat.lt_irrefl 0)
  | i :: l, h => by
    by_cases e : g = recvCell (peer c i) c
    · exact ⟨i, List.mem_cons_self, e⟩
    · have h' : 0 < oweTiles c l g u := by
        have : oweTiles c (i :: l) g u = oweTiles c l g u := by
          show (oweTiles c l + tallyAt (recvCell (peer c i) c) () N) g u = _
          rw [Pi.add_apply, tallyAt_ne_cell e, add_zero]
        rwa [this] at h
      obtain ⟨j, hj, ej⟩ := oweTiles_cell c g u l h'
      exact ⟨j, List.mem_cons_of_mem i hj, ej⟩

/-- A device that owes tiles only may wait at any cell but a receive cell. -/
theorem mayWait_tiles (c : Dev nD) (l : List (Fin 31)) (sm : SemLoc sig) (h : lvOf (useOf sm) ≤ 1) :
    (levAts L lv : sProp 𝕄) ⊢ MayWait (c : Thread nD τ) sm () (oweTiles c l) :=
  MayOwe.of_cut (L := L) (lev := lv) 1 (fun p hp => by rw [Finset.mem_singleton.mp hp, L_tc]; exact Finset.mem_singleton_self _)
    (fun g u hg => by
      obtain ⟨i, -, rfl⟩ := oweTiles_cell c g u l hg
      rw [L_tc]; exact Finset.mem_singleton_self _)
    (fun p hp => by rw [Finset.mem_singleton.mp hp]; exact h)
    (fun g u hg => by
      obtain ⟨i, -, rfl⟩ := oweTiles_cell c g u l hg
      show 1 < lvOf (useOf _)
      rw [use_recv]; exact Nat.lt_succ_self 1)

end Cert.KernelIdeal.Talk

end
-- ==== Proof.Seq.lean ====
/- Separating conjunctions along a list, and the rules for a program that does one thing for each
   member of a list. -/
module

public import proofs.«01_k».proof.Proof.Protocol
public import Idealize.ShloMosaic.Lib.Tactic

@[expose] public section

set_option synthInstance.maxSize 4096

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ UU ℕ

/-- One assertion for each member of a list. -/
def sepAll {A : Type} (Φ : A → sProp 𝕄) : List A → sProp 𝕄
  | [] => iprop(emp)
  | a :: l => iprop(Φ a ∗ sepAll Φ l)

theorem sepAll_bigSep {A : Type} [DecidableEq A] (Φ : A → sProp 𝕄) : ∀ (l : List A), l.Nodup → sepAll Φ l = bigSep l.toFinset Φ
  | [], _ => by rw [List.toFinset_nil, bigSep_empty]; rfl
  | a :: l, h => by
    rw [List.toFinset_cons, bigSep_insert (by rw [List.mem_toFinset]; exact (List.nodup_cons.mp h).1),
      ← sepAll_bigSep Φ l (List.nodup_cons.mp h).2]
    rfl

theorem sepAll_univ {A : Type} [DecidableEq A] [Fintype A] (Φ : A → sProp 𝕄) (l : List A) (h : l.Nodup) (hu : l.toFinset = Finset.univ) :
    sepAll Φ l = bigSep Finset.univ Φ := by
  rw [sepAll_bigSep Φ l h, hu]

theorem sepAll_append {A : Type} (Φ : A → sProp 𝕄) : ∀ l l' : List A, sepAll Φ (l ++ l') = iprop(sepAll Φ l ∗ sepAll Φ l')
  | [], l' => (equiv_iff.mp BI.emp_sep).symm
  | a :: l, l' => by
    show iprop(Φ a ∗ sepAll Φ (l ++ l')) = iprop((Φ a ∗ sepAll Φ l) ∗ sepAll Φ l')
    rw [sepAll_append Φ l l']
    exact (equiv_iff.mp ⟨BI.sep_assoc, BI.sep_assoc'⟩).symm

/-- The weakest precondition of a program of the body on device `c`. -/
abbrev Wp {α : Type} (c : Dev nD) (p : KProg F α) (Q : α → sProp 𝕄) : sProp 𝕄 :=
  wp frame (wpE (defs₀ (F := F)) Variants.none (c : Thread nD τ) none) Set.univ p Q

/-- A program whose first part runs from `P` to `R`, then the rest. -/
theorem wp_then {α β : Type} (c : Dev nD) {p : KProg F α} {k : α → KProg F β} {P : sProp 𝕄} {R : α → sProp 𝕄} {Q : β → sProp 𝕄}
    (h : P ⊢ Wp c p R) : P ⊢ iprop((∀ a, R a -∗ Wp c (k a) Q) -∗ Wp c (p >>= k) Q) := by
  rw [Wp, wp_bind]
  exact h.trans (wp_wand _ _ _)

/-- One program for each member of a list, each taking its own assertion to another and `I` along the list. -/
theorem wp_runAll {A : Type} (c : Dev nD) {p : A → KProg F PUnit} {Pre Post : A → sProp 𝕄} (I : List A → sProp 𝕄)
    (h : ∀ a l, iprop(Pre a ∗ I (a :: l)) ⊢ Wp c (p a) fun _ => iprop(Post a ∗ I l)) :
    ∀ l : List A, iprop(sepAll Pre l ∗ I l) ⊢ Wp c (runAll p l) fun _ => iprop(sepAll Post l ∗ I [])
  | [] => by
    unfold runAll sepAll
    rw [Wp, wp_pure]
    exact fupd_intro
  | a :: l => by
    unfold runAll sepAll
    iintro ⟨⟨Ha, Hl⟩, HI⟩
    iapply (wp_then c (h a l)) $$ [Ha HI]
    · isplitl [Ha] <;> iassumption
    iintro %_ ⟨Hp, HI⟩
    iapply (wp_wand _ _ _) $$ [Hl HI]
    · iapply (wp_runAll c I h l)
      isplitl [Hl] <;> iassumption
    iintro %_ ⟨Hq, HI⟩
    isplitr [HI]
    · isplitl [Hp] <;> iassumption
    · iexact HI

end Cert.KernelIdeal.Talk

end
-- ==== Proof.Exchange.lean ====
/- The steps of the body that talk to other devices without computing anything: the signals, the wait
   at the barrier, the waits for tiles to arrive and for tiles to have been sent. -/
module

public import proofs.«01_k».proof.Proof.Seq

@[expose] public section

set_option synthInstance.maxSize 4096

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Dev nD → Vec F S128x4096 .f32) (W : Dev nD → S4096x8192.Idx → F .f32)

/-! ## The cells of the protocol -/

/-- The semaphores of one device's send and receive cells. -/
def talkSem : Fin 31 ⊕ Fin 32 → SemLoc sig
  | .inl i => .dma (sendSem cc0_scratch3 i)
  | .inr s => .dma (recvSemOf cc0_scratch4 s)

theorem useOf_talkSem (t : Fin 31 ⊕ Fin 32) : useOf (talkSem t) = Sum.elim Use.send Use.recv t := by
  cases t
  · exact use_send _
  · exact use_recv _

theorem talkSem_inj : Function.Injective talkSem := by
  intro a b h
  have h' := (useOf_talkSem a).symm.trans ((congrArg useOf h).trans (useOf_talkSem b))
  cases a <;> cases b
  · exact congrArg Sum.inl (Use.send.inj h')
  · exact Use.noConfusion h'
  · exact Use.noConfusion h'
  · exact congrArg Sum.inr (Use.recv.inj h')

def barEmb : Dev nD ↪ GSem nD τ sig := ⟨fun c => barCell c, fun _ _ h => congrArg (fun g : GSem nD τ sig => g.1.1) h⟩
def talkEmb : Dev nD × (Fin 31 ⊕ Fin 32) ↪ GSem nD τ sig :=
  ⟨fun ct => ((ct.1 : Thread nD τ), talkSem ct.2), fun _ _ h =>
    Prod.ext (congrArg (fun g : GSem nD τ sig => g.1.1) h) (talkSem_inj (congrArg Prod.snd h))⟩

abbrev barCells : Finset (GSem nD τ sig) := Finset.univ.map barEmb
abbrev talkCells : Finset (GSem nD τ sig) := Finset.univ.map talkEmb

theorem bar_mem (c : Dev nD) : barCell c ∈ (barCells ∪ talkCells : Finset (GSem nD τ sig)) :=
  Finset.mem_union_left _ (Finset.mem_map_of_mem barEmb (Finset.mem_univ c))
theorem send_mem (c : Dev nD) (i : Fin 31) : sendCell c i ∈ (barCells ∪ talkCells : Finset (GSem nD τ sig)) :=
  Finset.mem_union_right _ (Finset.mem_map_of_mem talkEmb (Finset.mem_univ (c, Sum.inl i)))
theorem recv_mem (c : Dev nD) (s : Fin 32) : recvCell c s ∈ (barCells ∪ talkCells : Finset (GSem nD τ sig)) :=
  Finset.mem_union_right _ (Finset.mem_map_of_mem talkEmb (Finset.mem_univ (c, Sum.inr s)))

/-! ## What every device may consult -/

/-- The invariants of all cells, and that the barrier cells are open. -/
def records (K : GSem nD τ sig → ℕ) : sProp 𝕄 :=
  iprop((bigSep (barCells ∪ talkCells) fun g => cellInv ER (talkRd X W) (K g) g) ∗ bigSep barCells fun g => reached ER g 0)

instance records_persistent (K : GSem nD τ sig → ℕ) : BI.Persistent (records X W K) := by unfold records; infer_instance

/-- With it, that a device's own cells are open, and the levels. -/
def Ctx (K : GSem nD τ sig → ℕ) (c : Dev nD) : sProp 𝕄 :=
  iprop(records X W K ∗ (bigSep Finset.univ fun i => reached ER (sendCell c i) 0)
    ∗ (bigSep Finset.univ fun s => reached ER (recvCell c s) 0) ∗ levAts L lv)

instance Ctx_persistent (K : GSem nD τ sig → ℕ) (c : Dev nD) : BI.Persistent (Ctx X W K c) := by unfold Ctx; infer_instance

variable (K : GSem nD τ sig → ℕ) (c : Dev nD)

theorem records_inv {g : GSem nD τ sig} (hg : g ∈ (barCells ∪ talkCells : Finset (GSem nD τ sig))) :
    records X W K ⊢ cellInv ER (talkRd X W) (K g) g := by
  unfold records
  iintro ⟨#H, -⟩
  have h : (bigSep (barCells ∪ talkCells) fun g => (cellInv ER (talkRd X W) (K g) g : sProp 𝕄)) ⊢ cellInv ER (talkRd X W) (K g) g :=
    bigSep_elim hg
  iapply h; iexact H

theorem ctx_inv {g : GSem nD τ sig} (hg : g ∈ (barCells ∪ talkCells : Finset (GSem nD τ sig))) :
    Ctx X W K c ⊢ cellInv ER (talkRd X W) (K g) g := by
  unfold Ctx
  iintro ⟨#H, -⟩
  iapply (records_inv X W K hg); iexact H

theorem ctx_bar (j : Dev nD) : Ctx X W K c ⊢ (reached ER (barCell j) 0 : sProp 𝕄) := by
  unfold Ctx records
  iintro ⟨⟨-, #H⟩, -⟩
  have h : (bigSep barCells fun g => (reached ER g 0 : sProp 𝕄)) ⊢ reached ER (barCell j) 0 :=
    bigSep_elim (Finset.mem_map_of_mem barEmb (Finset.mem_univ j))
  iapply h; iexact H

theorem ctx_send (i : Fin 31) : Ctx X W K c ⊢ (reached ER (sendCell c i) 0 : sProp 𝕄) := by
  unfold Ctx
  iintro ⟨-, #H, -⟩
  have h : (bigSep Finset.univ fun i => (reached ER (sendCell c i) 0 : sProp 𝕄)) ⊢ reached ER (sendCell c i) 0 := bigSep_elim (Finset.mem_univ i)
  iapply h; iexact H

theorem ctx_recv (s : Fin 32) : Ctx X W K c ⊢ (reached ER (recvCell c s) 0 : sProp 𝕄) := by
  unfold Ctx
  iintro ⟨-, -, #H, -⟩
  have h : (bigSep Finset.univ fun s => (reached ER (recvCell c s) 0 : sProp 𝕄)) ⊢ reached ER (recvCell c s) 0 := bigSep_elim (Finset.mem_univ s)
  iapply h; iexact H

theorem ctx_may {P : sProp 𝕄} (h : (levAts L lv : sProp 𝕄) ⊢ P) : Ctx X W K c ⊢ P := by
  unfold Ctx
  iintro ⟨-, -, -, #H⟩
  iapply h; iexact H

/-- What the device owes, whatever it has waited for. -/
def Owing (O : CellTallies nD τ sig Unit) : sProp 𝕄 := iprop(∃ Wt, owes (c : Thread nD τ) O Wt)

/-- A cell all of whose rounds are over gives its counter back, at zero. -/
theorem close_cell {g : GSem nD τ sig} (hg : g ∈ (barCells ∪ talkCells : Finset (GSem nD τ sig))) (R : ℕ)
    (hR : ∀ r, R ≤ r → (talkRd X W).duties g r = ∅) :
    iprop(Ctx X W K c ∗ atPos ER g R ∅ 0) ⊢ (|={Set.univ}=> semVal g 0 : sProp 𝕄) := by
  iintro ⟨#HC, Hat⟩
  iapply (Rounds.cell_close ER (talkRd X W) (κ := K g) (Set.mem_univ (K g)) id hR)
  isplitr
  · iapply (ctx_inv X W K c hg); iexact HC
  · iexact Hat

/-! ## The signals -/

/-- What the signal to the device at distance `i` takes: the right to give the unit, and that device's rows in this
    device's window. -/
def sigPre (i : Fin 31) : sProp 𝕄 :=
  iprop(dutyTok ER (barCell (peer c i)) 0 c ∗ ∃ f, oPts c (peer c i) f)

theorem signal_wp (hw : k0_chk1 (wd c)) (O : CellTallies nD τ sig Unit) (i : Fin 31) :
    iprop(Ctx X W K c ∗ sigPre c i ∗ Owing c (O + tallyAt (barCell (peer c i)) () 1))
      ⊢ Wp c (signalStep (F := F) (wd c) hw i) fun _ => Owing c O := by
  unfold signalStep
  rw [dev_eq c hw i]
  unfold sigPre Owing
  iintro ⟨#HC, ⟨Htok, Hpts⟩, ⟨%Wt, HO⟩⟩
  iapply (Rounds.wp_signal Variants.none ER (talkRd X W) (c : Thread nD τ) none (dst := (peer c i : Thread nD τ)) (sem := barS) (r := 0) (d := c)
      (κ := K (barCell (peer c i)))
      (by rw [duties_bar]; exact Finset.mem_erase.mpr ⟨(peer_ne c i).symm, Finset.mem_univ _⟩) (amount_bar X W (peer c i) c) () O rfl)
    $$ [HO Htok Hpts]
  · isplitr; · iapply (ctx_inv X W K c (bar_mem (peer c i))); iexact HC
    isplitl [HO]; · iexact HO
    isplitl [Htok]; · iexact Htok
    isplitl [Hpts]
    · rw [payload_bar]; unfold barPay
      isplitl [Hpts]; · iexact Hpts
      iapply (ctx_recv X W K c (peer c i)); iexact HC
    · iapply (ctx_bar X W K c (peer c i)); iexact HC
  iintro HO
  rw [wp_ret]
  imodintro
  iexists Wt
  iexact HO

/-! ## A wait for a whole round -/

/-- A wait that takes all of a cell's only round closes the cell and brings what the round carries. -/
theorem wait_wp {w : TpuEff nD τ sig (Elt F) Λ₀ .tc PUnit} {sm : SemLoc sig} {n : ℕ} {P : sProp 𝕄}
    (hw : ∀ Q : PUnit → sProp 𝕄, wpE (defs₀ (F := F)) Variants.none (c : Thread nD τ) none Set.univ w Q = waitSpec (c : Thread nD τ) Set.univ sm n Q)
    (hg : ((c : Thread nD τ), sm) ∈ barCells ∪ talkCells) (hn : (talkRd X W).expect ((c : Thread nD τ), sm) 0 = n)
    (hP : (bigSep ((talkRd X W).duties ((c : Thread nD τ), sm) 0 \ ∅) fun d => (talkRd X W).payload ((c : Thread nD τ), sm) 0 d) = P)
    (O : CellTallies nD τ sig Unit) (hO : (levAts L lv : sProp 𝕄) ⊢ MayWait (c : Thread nD τ) sm () O) :
    iprop(Ctx X W K c ∗ (cred (tallyAt ((c : Thread nD τ), sm) () n) ∗ atPos ER ((c : Thread nD τ), sm) 0 ∅ 0) ∗ Owing c O)
      ⊢ Wp c (.op w .ret) fun _ => iprop((semVal ((c : Thread nD τ), sm) 0 ∗ P) ∗ Owing c O) := by
  subst hn hP
  have hM : Ctx X W K c ⊢ MayWait (c : Thread nD τ) sm () O := ctx_may X W K c hO
  unfold Owing
  iintro ⟨#HC, ⟨Hcr, Hat⟩, ⟨%Wt, HO⟩⟩
  iapply (Rounds.wp_wait_rest_token Variants.none ER (talkRd X W) (c : Thread nD τ) none (κ := K ((c : Thread nD τ), sm))
      hw (Set.mem_univ _) () (O := O) (W := Wt) (R := 0) (m := 0) (T := ∅) (Nat.zero_add _)) $$ [Hcr HO Hat]
  · isplitr; · iapply (ctx_inv X W K c hg); iexact HC
    isplitl [Hcr]; · iexact Hcr
    isplitl [HO]; · iexact HO
    isplitr
    · iapply hM; iexact HC
    iexact Hat
  iintro ⟨HO, Hat, -, Hpay⟩
  rw [wp_ret]
  imod (close_cell X W K c hg (0 + 1) (duties_later X W _)) $$ [Hat] with Hv
  · isplitr; · iexact HC
    iexact Hat
  imodintro
  isplitl [Hv Hpay]
  · isplitl [Hv]; · iexact Hv
    iexact Hpay
  iexists _
  iexact HO

theorem mayWait_none (sm : SemLoc sig) : (levAts L lv : sProp 𝕄) ⊢ MayWait (c : Thread nD τ) sm () 0 := by
  rw [MayWait_zero]
  exact BI.affine

/-! ## The barrier -/

theorem barrier_wp :
    iprop(Ctx X W K c ∗ (cred (tallyAt (barCell c) () 31) ∗ atPos ER (barCell c) 0 ∅ 0) ∗ Owing c (oweTiles c tileOrder))
      ⊢ Wp c (barrierStep (F := F)) fun _ => iprop((semVal (barCell c) 0 ∗ bigSep Finset.univ fun i : Fin 31 => barPay c (peer c i))
          ∗ Owing c (oweTiles c tileOrder)) :=
  wait_wp X W K c (sm := .reg barS) (n := 31) (wpE_semWait_eq Variants.none (c : Thread nD τ) none Set.univ) (bar_mem c) (expect_bar X W c)
    (rest_bar X W c) (oweTiles c tileOrder) (mayWait_tiles (F := F) c tileOrder (.reg barS) (use_bar.symm ▸ Nat.le_refl 1))

/-! ## The waits for tiles to have been sent -/

def sentPre (i : Fin 31) : sProp 𝕄 := iprop(cred (tallyAt (sendCell c i) () N) ∗ atPos ER (sendCell c i) 0 ∅ 0)
def sentPost (i : Fin 31) : sProp 𝕄 := iprop(semVal (sendCell c i) 0 ∗ sendPay (F := F) c i)

theorem sent_wp (hw : k0_chk1 (wd c)) (i : Fin 31) :
    iprop(Ctx X W K c ∗ sentPre c i ∗ Owing c 0)
      ⊢ Wp c (sentStep (F := F) oM ybM cc0_scratch3 (wd c) hw i) fun _ => iprop(sentPost c i ∗ Owing c 0) :=
  wait_wp X W K c (sm := .dma (sendSem cc0_scratch3 i)) (n := N)
    (fun Q => (wpE_waitDma2_eq Variants.none (c : Thread nD τ) none Set.univ Q).trans (by rw [show (ySlot ybM i).view.dmaCredit = N from credit_y i]))
    (send_mem c i) (expect_send X W c i) (rest_send X W c i) 0 (mayWait_none c _)

/-! ## The waits for tiles to arrive -/

/-- The credit to wait with, or the device's own rows, already computed. -/
def recvHeld (s : Fin 32) : sProp 𝕄 :=
  if s = c then oPts c c (resultOf X W c) else cred (tallyAt (recvCell c s) () N)
def recvPre (s : Fin 32) : sProp 𝕄 := iprop(recvHeld X W c s ∗ atPos ER (recvCell c s) 0 ∅ 0)
def recvPost (s : Fin 32) : sProp 𝕄 := iprop(semVal (recvCell c s) 0 ∗ oPts c s (resultOf X W c))

theorem credit_first : (oM.slice (Rect.unit (s := S4096x256) ![0, 0] S128x256.size inb_S4096x256_S128x256_0_0) (fun _ => rfl)).view.dmaCredit = N :=
  rfl

theorem arrived_wp (s : Fin 32) (h : s ≠ c) {src : Memref sig .tc .vmem S128x256 .f32} {h₁ : src.view.WordExact} {h₂ : (oM.slice (Rect.unit (s := S4096x256) ![0, 0] S128x256.size inb_S4096x256_S128x256_0_0) (fun _ => rfl)).view.WordExact} :
    iprop(Ctx X W K c ∗ (cred (tallyAt (recvCell c s) () N) ∗ atPos ER (recvCell c s) 0 ∅ 0) ∗ Owing c 0)
      ⊢ Wp c (Prog.lift (.waitDma2 (recvSemOf cc0_scratch4 s) src
        (oM.slice (Rect.unit (s := S4096x256) ![0, 0] S128x256.size inb_S4096x256_S128x256_0_0) (fun _ => rfl)) h₁ h₂) : KProg F PUnit)
        fun _ => iprop(recvPost X W c s ∗ Owing c 0) :=
  wait_wp X W K c (sm := .dma (recvSemOf cc0_scratch4 s)) (n := N)
    (fun Q => (wpE_waitDma2_eq Variants.none (c : Thread nD τ) none Set.univ Q).trans (by rw [credit_first]))
    (recv_mem c s) (expect_recv X W c s h) (rest_recv X W c s h) 0 (mayWait_none c _)

theorem recv_wp (s : Fin 32) (k : KProg F PUnit) (Q : PUnit → sProp 𝕄) :
    iprop(Ctx X W K c ∗ (recvPre X W c s ∗ Owing c 0) ∗ (iprop(recvPost X W c s ∗ Owing c 0) -∗ Wp c k Q))
      ⊢ Wp c (recvThen (F := F) oM ybM cc0_scratch4 (wd c) s k) Q := by
  unfold recvThen recvPre recvHeld
  by_cases h : s = c
  · subst h
    rw [if_neg (fun h => (waits_iff _ _).mp h rfl), if_pos rfl]
    have e : iprop(|={Set.univ}=> Wp s k Q) ⊢ Wp s k Q := Entails.of_eq (fupd_wp_eq ..)
    refine BIBase.Entails.trans ?_ e
    unfold recvPost
    iintro ⟨#HC, ⟨⟨Hpts, Hat⟩, HO⟩, Hk⟩
    imod (close_cell X W K s (recv_mem s s) 0 (duties_own X W s)) $$ [Hat] with Hv
    · isplitr; · iexact HC
      iexact Hat
    imodintro
    iapply Hk
    isplitr [HO]
    · isplitl [Hv] <;> iassumption
    · iexact HO
  · rw [if_pos ((waits_iff c s).mpr h), if_neg h]
    iintro ⟨#HC, ⟨H, HO⟩, Hk⟩
    iapply (wp_then c (arrived_wp X W K c s h)) $$ [H HO]
    · isplitr; · iexact HC
      isplitl [H] <;> iassumption
    iintro %_ H
    iapply Hk; iexact H

theorem recvAll_wp (k : KProg F PUnit) (Q : PUnit → sProp 𝕄) : ∀ l : List (Fin 32),
    iprop(Ctx X W K c ∗ (sepAll (recvPre X W c) l ∗ Owing c 0) ∗ (iprop(sepAll (recvPost X W c) l ∗ Owing c 0) -∗ Wp c k Q))
      ⊢ Wp c (recvAll (F := F) oM ybM cc0_scratch4 (wd c) k l) Q
  | [] => by
    unfold recvAll sepAll
    iintro ⟨-, H, Hk⟩
    iapply Hk; iexact H
  | s :: l => by
    unfold recvAll sepAll
    iintro ⟨#HC, ⟨⟨Hs, Hl⟩, HO⟩, Hk⟩
    iapply (recv_wp X W K c s (recvAll (F := F) oM ybM cc0_scratch4 (wd c) k l) Q)
    isplitr; · iexact HC
    isplitl [Hs HO]
    · isplitl [Hs] <;> iassumption
    iintro ⟨Hp, HO⟩
    iapply (recvAll_wp k Q l)
    isplitr; · iexact HC
    isplitl [Hl HO]
    · isplitl [Hl] <;> iassumption
    iintro ⟨Hq, HO⟩
    iapply Hk
    isplitr [HO]
    · isplitl [Hp] <;> iassumption
    · iexact HO

end Cert.KernelIdeal.Talk

end
-- ==== Proof.Compute.lean ====
/- The steps of the body that move weights and compute: starting the copy of a block of columns, waiting for it, loading it,
   computing a tile, and sending the tile to the device it belongs to. -/
module

public import proofs.«01_k».proof.Proof.Exchange

@[expose] public section

set_option synthInstance.maxSize 4096

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Dev nD → Vec F S128x4096 .f32) (W : Dev nD → S4096x8192.Idx → F .f32)

/-! ## The slots of the buffer of weights -/

/-- The device `s` further round. -/
def far (c : Dev nD) (s : Fin 32) : Dev nD := ⟨(c.val + s.val) % 32, Nat.mod_lt _ (by decide)⟩

theorem far_zero (c : Dev nD) : far c 0 = c := by
  apply Fin.ext
  have h : c.val < 32 := c.isLt
  show (c.val + 0) % 32 = c.val
  omega

theorem far_succ (c : Dev nD) (i : Fin 31) : far c i.succ = peer c i := by
  apply Fin.ext
  show (c.val + (i.val + 1)) % 32 = (c.val + i.val + 1) % 32
  rw [Nat.add_assoc]

/-- The share of the weights that copies into slot `k` read with. -/
abbrev readShare (k : Fin 4) : PosShare TreeShare := Transfers.dealOf fullShare Finset.univ k

/-- A device's weights, at that share. -/
abbrev wRead (c : Dev nD) (k : Fin 4) : sProp 𝕄 := wM.view.loc (c : Thread nD τ) ↦[Finset.univ]{readShare k} W c

/-- The columns copied for the device `s` further round. -/
abbrev wFor (c : Dev nD) (s : Fin 32) : Memref sig .tc .hbm S4096x256 .f32 := wCols wM (wd c) (chk c) s

/-- Slot `k` holds the block of columns of the device `s` further round. -/
def holds (c : Dev nD) (k : Fin 4) (s : Fin 32) (f : S4x4096x256.Idx → F .f32) : Prop :=
  (wPart k).view.read (Elt F) f = colsOf (far c s) (W c)

/-- A slot no copy is using. -/
def slotFree (c : Dev nD) (k : Fin 4) : sProp 𝕄 := iprop(semVal (copyCell c k) 0 ∗ (∃ f, wPts c k f) ∗ wRead W c k)

/-- A slot a copy has filled. -/
def slotFull (c : Dev nD) (k : Fin 4) (s : Fin 32) : sProp 𝕄 :=
  iprop(semVal (copyCell c k) 0 ∗ (∃ f, ⌜holds W c k s f⌝ ∗ wPts c k f) ∗ wRead W c k)

/-- What a copy into a slot brings back. -/
def copied (c : Dev nD) (k : Fin 4) (s : Fin 32) : sProp 𝕄 :=
  iprop((∃ f, ⌜holds W c k s f⌝ ∗ wPts c k f) ∗ ((wFor c s).view.loc (c : Thread nD τ) ↦[(wFor c s).view.set]{readShare k} W c))

/-- A slot being filled. -/
def slotBusy (c : Dev nD) (k : Fin 4) (s : Fin 32) : sProp 𝕄 :=
  iprop(Transfers.Flight countersEmb (c : Thread nD τ) (.dma (copySem cc0_scratch2 k)) () NW (copied W c k s)
    ∗ (wM.view.loc (c : Thread nD τ) ↦[Finset.univ \ (wFor c s).view.set]{readShare k} W c))

variable (K : GSem nD τ sig → ℕ) (c : Dev nD)

/-- What a copy leaves in slot `k`. -/
abbrev filled (k : Fin 4) (s : Fin 32) (f : S4x4096x256.Idx → F .f32) : S4x4096x256.Idx → F .f32 :=
  (wPart k).view.write (Elt F) f ((wFor c s).view.read (Elt F) (W c)) Finset.univ

theorem holds_filled (k : Fin 4) (s : Fin 32) (f : S4x4096x256.Idx → F .f32) : holds W c k s (filled W c k s f) :=
  (View.read_write_univ (Val := Elt F) (v := (wPart k).view) f ((wFor c s).view.read (Elt F) (W c))).trans (wCols_read c s (far c s) rfl (W c))

theorem copied_of (k : Fin 4) (s : Fin 32) (f : S4x4096x256.Idx → F .f32) :
    iprop(wPts c k (filled W c k s f) ∗ ((wFor c s).view.loc (c : Thread nD τ) ↦[(wFor c s).view.set]{readShare k} W c)) ⊢ copied W c k s := by
  have h := holds_filled W c k s f
  unfold copied
  iintro ⟨Hw, Hs⟩
  isplitr [Hs]
  · iexists (filled W c k s f)
    isplitr
    · ipureintro; exact h
    · iexact Hw
  · iexact Hs

theorem start_wp (hw : k0_chk1 (wd c)) (k : Fin 4) (s : Fin 32) :
    slotFree W c k ⊢ Wp c (startStep (F := F) wM wbM cc0_scratch2 (wd c) hw k s) fun _ => slotBusy W c k s := by
  unfold startStep slotFree
  iintro ⟨Hv, ⟨%f, Hf⟩, Hr⟩
  ihave Hr := (pointsTo_split_subset (Finset.subset_univ (wFor c s).view.set)).1 $$ Hr
  icases Hr with ⟨Hs, Hrest⟩
  iapply (Transfers.wp_dmaLocal countersEmb Variants.none (c : Thread nD τ) none (src := wFor c s) (dst := wPart k) (via := .same)
    (fs := W c) (fd := f) (q := readShare k) (sm := .dma (copySem cc0_scratch2 k)) () NW (credit_w k) NW_pos (Finset.Subset.refl _)) $$ [Hv Hf Hs]
  · isplitl [Hs]; · iexact Hs
    isplitl [Hf]; · iexact Hf
    iexact Hv
  iintro HF
  rw [wp_ret]
  imodintro
  unfold slotBusy
  isplitr [Hrest]
  · iapply (Transfers.Flight_mono countersEmb (c : Thread nD τ) (copied_of W c k s f)); iexact HF
  · iexact Hrest

/-- The wait for a copy, while tiles are owed. -/
theorem wait_slot_wp (hw : k0_chk1 (wd c)) (k : Fin 4) (s : Fin 32) (l : List (Fin 31)) :
    iprop(Ctx X W K c ∗ slotBusy W c k s ∗ Owing c (oweTiles c l))
      ⊢ Wp c (waitStep (F := F) wM wbM cc0_scratch2 (wd c) hw k s) fun _ => iprop(slotFull W c k s ∗ Owing c (oweTiles c l)) := by
  have hM : Ctx X W K c ⊢ MayWait (c : Thread nD τ) (.dma (copySem cc0_scratch2 k)) () (oweTiles c l) :=
    ctx_may X W K c (mayWait_tiles (F := F) c l _ ((use_copy k).symm ▸ Nat.zero_le 1))
  unfold waitStep slotBusy Owing
  iintro ⟨#HC, ⟨HF, Hrest⟩, ⟨%Wt, HO⟩⟩
  iapply (Transfers.wp_waitLocalO countersEmb Variants.none (c : Thread nD τ) none (dstw := wPart k) () (N := NW) (credit_w k)
    (O := oweTiles c l) (W := Wt)) $$ [HF HO]
  · isplitl [HF]; · iexact HF
    isplitl [HO]; · iexact HO
    iapply hM; iexact HC
  iintro ⟨HD, Hv, HO⟩
  rw [wp_ret]
  imodintro
  unfold copied slotFull
  icases HD with ⟨Hf, Hs⟩
  isplitr [HO]
  · isplitl [Hv]; · iexact Hv
    isplitl [Hf]; · iexact Hf
    iapply (pointsTo_split_subset (Finset.subset_univ (wFor c s).view.set)).2
    isplitl [Hs] <;> iassumption
  · iexists _; iexact HO

/-- The elements a load of slot `k` reaches. -/
theorem slot_set (k : Fin 4) : (wbM.access (slotW k)).set = wSet k :=
  (Memref.set_view_squeeze (wbM.slice (slotW k) (fun _ => rfl)) squeezes_S1x4096x256_S4096x256).symm

theorem slot_wp (k : Fin 4) (s : Fin 32) :
    slotFull W c k s ⊢ Wp c (slotStep (F := F) wbM k) fun w =>
      iprop(⌜shapeCast S4096x256 w shapeCasts_S1x4096x256_S4096x256 = colsOf (far c s) (W c)⌝ ∗ slotFree W c k) := by
  unfold slotStep slotFull slotFree
  iintro ⟨Hv, ⟨%f, %hf, Hf⟩, Hr⟩
  iapply (wp_load_rect Variants.none (c : Thread nD τ) none Set.univ (m := wbM) (r := slotW k) (S := wSet k) (f := f)
    (slot_set k).subset) $$ Hf
  iintro Hf
  rw [wp_ret]
  imodintro
  isplitr
  · ipureintro; exact hf
  isplitl [Hv]; · iexact Hv
  isplitr [Hr]
  · iexists f; iexact Hf
  · iexact Hr

end Cert.KernelIdeal.Talk

end
-- ==== Proof.Turns.lean ====
/- The tiles: the device's own, those it sends, and the main loop that computes them all. -/
module

public import proofs.«01_k».proof.Proof.Compute
public import Idealize.ShloMosaic.Lib.Pointwise.Reshape

@[expose] public section

set_option synthInstance.maxSize 4096

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Dev nD → Vec F S128x4096 .f32) (W : Dev nD → S4096x8192.Idx → F .f32)
variable (K : GSem nD τ sig → ℕ) (c : Dev nD)

/-! ## The device's rows -/

abbrev xPts (c : Dev nD) : sProp 𝕄 := xM.view.loc (c : Thread nD τ) ↦[Finset.univ]{fullShare} X c

theorem rows_wp : xPts X c ⊢ Wp c (rowsStep (F := F) xM) fun x => iprop(⌜x = X c⌝ ∗ xPts X c) := by
  unfold rowsStep
  iintro Hx
  iapply (wp_load_rect Variants.none (c : Thread nD τ) none Set.univ (m := xM)
    (r := Rect.unit (s := S128x4096) ![0, 0] S128x4096.size inb_S128x4096_S128x4096_0_0) (S := Finset.univ) (f := X c)
    (Finset.subset_univ _)) $$ Hx
  iintro Hx
  rw [wp_ret]
  imodintro
  isplitr
  · ipureintro
    exact Memref.read_access_unit_zero (Elt F) cc0_stg1_0 (by funext a; fin_cases a <;> rfl) _ (X c)
  · iexact Hx

/-! ## A tile's value -/

theorem tile_eq (d : Dev nD) (w : Vec F S1x4096x256 .f32) (h : shapeCast S4096x256 w shapeCasts_S1x4096x256_S4096x256 = colsOf d (W c)) :
    geluTile (prodTile (rowsB (X c)) w) = tileOf d (X c) (W c) := by
  unfold prodTile tileOf
  rw [h]

/-! ## The device's own tile -/

theorem own_view (hw : k0_chk1 (wd c)) :
    oM.access (Rect.unit (s := S4096x256) (k0_off2 (wd c)) S128x256.size (k0_off2_inb (wd c) hw)) = (oPart c).view := rfl

theorem own_wp (hw : k0_chk1 (wd c)) (l : List (Fin 31)) :
    iprop(Ctx X W K c ∗ slotBusy W c 0 0 ∗ (∃ f, oPts c c f) ∗ Owing c (oweTiles c l))
      ⊢ Wp c (ownStep (F := F) wM oM wbM cc0_scratch2 (wd c) hw (X c)) fun _ =>
        iprop(slotFree W c 0 ∗ oPts c c (resultOf X W c) ∗ Owing c (oweTiles c l)) := by
  unfold ownStep
  iintro ⟨#HC, HB, ⟨%f, Hf⟩, HO⟩
  iapply (wp_then c (wait_slot_wp X W K c hw 0 0 l)) $$ [HB HO]
  · isplitr; · iexact HC
    isplitl [HB] <;> iassumption
  iintro %_ ⟨HB, HO⟩
  iapply (wp_then c (slot_wp W c 0 0)) $$ HB
  iintro %w ⟨%hw', HB⟩
  have hv := tile_eq X W c (far c 0) w hw'
  rw [hv, far_zero]
  iapply (wp_load_rect Variants.none (c : Thread nD τ) none Set.univ (m := oM)
    (r := Rect.unit (s := S4096x256) (k0_off2 (wd c)) S128x256.size (k0_off2_inb (wd c) hw)) (S := oSet c) (f := f)
    (Finset.Subset.refl _)) $$ Hf
  iintro Hf
  iapply (wp_store Variants.none (c : Thread nD τ) none Set.univ (m := oM)
    (r := Rect.unit (s := S4096x256) (k0_off2 (wd c)) S128x256.size (k0_off2_inb (wd c) hw)) (S := oSet c) (f := f)
    (Finset.Subset.refl _)) $$ Hf
  iintro Hf
  rw [wp_ret]
  imodintro
  isplitl [HB]; · iexact HB
  isplitr [HO]
  · iapply (Entails.of_eq (pointsTo_congr (oPart_write X W c c f _ rfl))); iexact Hf
  · iexact HO

/-! ## A tile for another device -/

/-- What a device needs to compute and send tile `i`: the right to pay the two duties, the rows it goes to, a slot, and the
    position of the cell that tells it has been sent. -/
def tilePre (c : Dev nD) (i : Fin 31) : sProp 𝕄 :=
  iprop((dutyTok ER (sendCell c i) 0 c ∗ dutyTok ER (recvCell (peer c i) c) 0 c) ∗ barPay c (peer c i) ∗ (∃ f, yPts (F := F) c i f)
    ∗ atPos ER (sendCell c i) 0 ∅ 0)

/-- The elements an access to slot `i` of the tiles reaches. -/
theorem tile_set (i : Fin 31) : (ybM.access (slotY i)).set = ySet i :=
  (Memref.set_view_squeeze (ybM.slice (slotY i) (fun _ => rfl)) squeezes_S1x128x256_S128x256).symm

/-- What is stored in a slot is what is sent. -/
theorem tile_read (i : Fin 31) (f : S31x128x256.Idx → F .f32) (v : FVec F S128x256 .f32) :
    (yPart i).view.read (Elt F) ((ybM.access (slotY i)).write (Elt F) f (shapeCast S1x128x256 v shapeCasts_S128x256_S1x128x256) Finset.univ) = v := by
  show shapeCast S128x256 ((ybM.access (slotY i)).read (Elt F) ((ybM.access (slotY i)).write (Elt F) f _ Finset.univ)) squeezes_S1x128x256_S128x256.numel_eq = v
  rw [View.read_write_univ]
  exact (shapeCast_comp ..).trans (shapeCast_id ..)

/-- A slot of tiles after tile `i` has been stored in it. -/
def stored (i : Fin 31) (f : S31x128x256.Idx → F .f32) : S31x128x256.Idx → F .f32 :=
  (ybM.access (slotY i)).write (Elt F) f (shapeCast S1x128x256 (tileOf (peer c i) (X c) (W c)) shapeCasts_S128x256_S1x128x256) Finset.univ

theorem stored_read (i : Fin 31) (f : S31x128x256.Idx → F .f32) :
    (yPart i).view.read (Elt F) (stored X W c i f) = tileOf (peer c i) (X c) (W c) := tile_read i f _

theorem sent_pay (i : Fin 31) (f : S31x128x256.Idx → F .f32) : yPts c i f ⊢ (talkRd X W).payload (sendCell c i) 0 c := by
  rw [payload_send]; unfold sendPay
  iintro H
  iexists f
  iexact H

theorem recv_pay (i : Fin 31) (f : S31x128x256.Idx → F .f32) (fo : S4096x256.Idx → F .f32) :
    oPts (peer c i) c ((oPart c).view.write (Elt F) fo ((yPart i).view.read (Elt F) (stored X W c i f)) Finset.univ)
      ⊢ (talkRd X W).payload (recvCell (peer c i) c) 0 c := by
  rw [payload_recv]; unfold recvPay
  exact Entails.of_eq (pointsTo_congr (oPart_write X W (peer c i) c fo _ (stored_read X W c i f)))

/-- Sending a tile that is in its slot. -/
theorem send_wp (i : Fin 31) (l : List (Fin 31)) (p : Dev nD) (hp : p = peer c i) (sm : DmaSem sig) (hsm : sm = recvSemOf cc0_scratch4 c)
    (f : S31x128x256.Idx → F .f32) {h₀ h₁ h₂ h₃} :
    iprop(Ctx X W K c ∗ (dutyTok ER (sendCell c i) 0 c ∗ dutyTok ER (recvCell (peer c i) c) 0 c) ∗ barPay c (peer c i) ∗ atPos ER (sendCell c i) 0 ∅ 0
        ∗ yPts c i (stored X W c i f)
        ∗ Owing c (oweTiles c (i :: l)))
      ⊢ Wp c (Prog.lift (.enqueueDma (yPart i) (.remote (Dev.tc p) (oPart c) (.dma (sendSem cc0_scratch3 i)) h₀) (.dma sm) h₁ h₂ h₃) : KProg F PUnit) fun _ =>
        iprop(sentPre c i ∗ Owing c (oweTiles c l)) := by
  subst hp hsm
  unfold barPay Owing
  iintro ⟨#HC, ⟨Hd₁, Hd₂⟩, ⟨⟨%fo, Ho⟩, #Hr⟩, Hat, Hy, ⟨%Wt, HO⟩⟩
  iapply (Rounds.wp_send_pointsTo Variants.none ER (talkRd X W) (c : Thread nD τ) none (c' := (peer c i : Thread nD τ)) (src := yPart i) (dst := oPart c)
      (sS := .dma (sendSem cc0_scratch3 i)) (sem := .dma (recvSemOf cc0_scratch4 c)) (q := fullShare) (fs := stored X W c i f)
      (κ₁ := K (sendCell c i)) (κ₂ := K (recvCell (peer c i) c)) (r₁ := 0) (r₂ := 0) (d₁ := c) (d₂ := c) (fd := fo)
      (by rw [duties_send]; exact Finset.mem_singleton_self _)
      (by rw [duties_recv, if_neg (peer_ne c i).symm]; exact Finset.mem_singleton_self _)
      () () N (credit_o c) (amount_send X W c i c) (amount_recv X W (peer c i) c c) (oweTiles c l) rfl (W := Wt)
      (sent_pay X W c i (stored X W c i f)) (recv_pay X W c i f fo)) $$ [Hy Ho HO Hd₁ Hd₂]
  · isplitr; · iapply (ctx_inv X W K c (send_mem c i)); iexact HC
    isplitr; · iapply (ctx_inv X W K c (recv_mem (peer c i) c)); iexact HC
    isplitl [Hy]; · iexact Hy
    isplitl [Ho]; · iexact Ho
    isplitl [HO]; · iexact HO
    isplitl [Hd₁]; · iexact Hd₁
    isplitr; · iapply (ctx_send X W K c i); iexact HC
    isplitl [Hd₂]; · iexact Hd₂
    iexact Hr
  iintro ⟨Hcr, HO⟩
  rw [wp_ret]
  imodintro
  isplitr [HO]
  · unfold sentPre
    isplitl [Hcr] <;> iassumption
  · iexists _; iexact HO

theorem tile_wp (hw : k0_chk1 (wd c)) (k : Fin 4) (i : Fin 31) (l : List (Fin 31)) :
    iprop(Ctx X W K c ∗ slotBusy W c k i.succ ∗ tilePre c i ∗ Owing c (oweTiles c (i :: l)))
      ⊢ Wp c (tileStep (F := F) wM oM wbM ybM cc0_scratch2 cc0_scratch3 cc0_scratch4 (wd c) hw (X c) k i) fun _ =>
        iprop(slotFree W c k ∗ sentPre c i ∗ Owing c (oweTiles c l)) := by
  unfold tileStep
  iintro ⟨#HC, HB, HT, HO⟩
  iapply (wp_then c (wait_slot_wp X W K c hw k i.succ (i :: l))) $$ [HB HO]
  · isplitr; · iexact HC
    isplitl [HB] <;> iassumption
  iintro %_ ⟨HB, HO⟩
  iapply (wp_then c (slot_wp W c k i.succ)) $$ HB
  iintro %w ⟨%hw', HB⟩
  have hv := tile_eq X W c (far c i.succ) w hw'
  rw [hv, far_succ]
  unfold tilePre
  icases HT with ⟨Hd, Hb, ⟨%fy, Hy⟩, Hat⟩
  iapply (wp_load_rect Variants.none (c : Thread nD τ) none Set.univ (m := ybM) (r := slotY i) (S := ySet i) (f := fy) (tile_set i).subset) $$ Hy
  iintro Hy
  iapply (wp_store Variants.none (c : Thread nD τ) none Set.univ (m := ybM) (r := slotY i) (S := ySet i) (f := fy) (tile_set i).subset) $$ Hy
  iintro Hy
  iapply (wp_wand _ _ _) $$ [Hd Hb Hat Hy HO]
  · iapply (send_wp X W K c i l _ (dev_eq c hw i) _ (recvSem_eq c hw) fy)
    isplitr; · iexact HC
    isplitl [Hd]; · iexact Hd
    isplitl [Hb]; · iexact Hb
    isplitl [Hat]; · iexact Hat
    isplitl [Hy]
    · unfold stored; iexact Hy
    · unfold Owing; iexact HO
  iintro %_ ⟨Hs, HO⟩
  isplitl [HB]; · iexact HB
  isplitl [Hs] <;> iassumption

/-! ## The main loop -/

/-- A slot, free or being filled for the device so much further round. -/
def slotAt (c : Dev nD) (k : Fin 4) : Option (Fin 32) → sProp 𝕄
  | none => slotFree W c k
  | some s => slotBusy W c k s

def slotsAt (c : Dev nD) (σ : Fin 4 → Option (Fin 32)) : sProp 𝕄 := bigSep Finset.univ fun k => slotAt W c k (σ k)

/-- A list of turns computes the tiles of a list, from slots being filled as `σ` says until all are free. -/
def fits : List Turn → (Fin 4 → Option (Fin 32)) → List (Fin 31) → Bool
  | [], σ, todo => decide (todo = []) && decide (∀ k, σ k = none)
  | .start k s :: ts, σ, todo => decide (σ k = none) && fits ts (Function.update σ k (some s)) todo
  | .tile _ _ :: _, _, [] => false
  | .tile k i :: ts, σ, j :: todo => decide (j = i) && decide (σ k = some i.succ) && fits ts (Function.update σ k none) todo

/-- One slot changes, the others stay. -/
theorem slots_change (σ : Fin 4 → Option (Fin 32)) (k : Fin 4) {b : Option (Fin 32)} (a : Option (Fin 32)) (hb : σ k = b) :
    slotsAt W c σ ⊢ iprop(slotAt W c k b ∗ (slotAt W c k a -∗ slotsAt W c (Function.update σ k a))) := by
  have h := bigSep_univ_update (Φ := fun k => slotAt W c k (σ k)) (Ψ := fun k' => slotAt W c k' (Function.update σ k a k')) k
    fun k' hk => by simp only [Function.update_of_ne hk]
  simp only [Function.update_self, hb] at h
  exact h

theorem slots_start (σ : Fin 4 → Option (Fin 32)) (k : Fin 4) (s : Fin 32) (h : σ k = none) :
    slotsAt W c σ ⊢ iprop(slotFree W c k ∗ (slotBusy W c k s -∗ slotsAt W c (Function.update σ k (some s)))) :=
  slots_change W c σ k (some s) h

theorem slots_end (σ : Fin 4 → Option (Fin 32)) (k : Fin 4) (s : Fin 32) (h : σ k = some s) :
    slotsAt W c σ ⊢ iprop(slotBusy W c k s ∗ (slotFree W c k -∗ slotsAt W c (Function.update σ k none))) :=
  slots_change W c σ k none h

theorem loop_wp (hw : k0_chk1 (wd c)) : ∀ (ts : List Turn) (σ : Fin 4 → Option (Fin 32)) (todo : List (Fin 31)), fits ts σ todo = true →
    iprop(Ctx X W K c ∗ slotsAt W c σ ∗ sepAll (tilePre c) todo ∗ Owing c (oweTiles c todo))
      ⊢ Wp c (runAll (turnStep (F := F) wM oM wbM ybM cc0_scratch2 cc0_scratch3 cc0_scratch4 (wd c) hw (X c)) ts) fun _ =>
        iprop(slotsAt W c (fun _ => none) ∗ sepAll (sentPre c) todo ∗ Owing c 0)
  | [], σ, todo, h => by
    simp only [fits, Bool.and_eq_true, decide_eq_true_eq] at h
    obtain ⟨rfl, h⟩ := h
    obtain rfl : σ = fun _ => none := funext h
    unfold runAll
    simp only [sepAll, oweTiles]
    rw [Wp, wp_pure]
    iintro ⟨-, Hs, HT, HO⟩
    imodintro
    isplitl [Hs]; · iexact Hs
    isplitl [HT] <;> iassumption
  | .start k s :: ts, σ, todo, h => by
    simp only [fits, Bool.and_eq_true, decide_eq_true_eq] at h
    unfold runAll
    iintro ⟨#HC, Hs, HT, HO⟩
    ihave Hs := (slots_start W c σ k s h.1) $$ Hs
    icases Hs with ⟨Hk, Hs⟩
    iapply (wp_then c (start_wp W c hw k s)) $$ Hk
    iintro %_ Hk
    ihave Hs := Hs $$ Hk
    iapply (loop_wp hw ts _ todo h.2)
    isplitr; · iexact HC
    isplitl [Hs]; · iexact Hs
    isplitl [HT] <;> iassumption
  | .tile _ _ :: _, _, [], h => by simp [fits] at h
  | .tile k i :: ts, σ, j :: todo, h => by
    simp only [fits, Bool.and_eq_true, decide_eq_true_eq] at h
    obtain ⟨⟨rfl, hk⟩, h⟩ := h
    unfold runAll sepAll
    iintro ⟨#HC, Hs, ⟨HT, HTs⟩, HO⟩
    ihave Hs := (slots_end W c σ k _ hk) $$ Hs
    icases Hs with ⟨Hk, Hs⟩
    iapply (wp_then c (tile_wp X W K c hw k j todo)) $$ [Hk HT HO]
    · isplitr; · iexact HC
      isplitl [Hk]; · iexact Hk
      isplitl [HT] <;> iassumption
    iintro %_ ⟨Hk, Hp, HO⟩
    ihave Hs := Hs $$ Hk
    iapply (wp_wand _ _ _) $$ [Hs HTs HO]
    · iapply (loop_wp hw ts _ todo h)
      isplitr; · iexact HC
      isplitl [Hs]; · iexact Hs
      isplitl [HTs] <;> iassumption
    iintro %_ ⟨Hs, Hps, HO⟩
    isplitl [Hs]; · iexact Hs
    isplitl [Hp Hps]
    · isplitl [Hp] <;> iassumption
    · iexact HO

/-- The kernel's own turns. -/
theorem turns_fit : fits turns ![none, some 16, some 15, some 17] tileOrder = true := by decide

end Cert.KernelIdeal.Talk

end
-- ==== Proof.Body.lean ====
/- The whole body of the kernel on one device, from what the device is given at its entry to what it hands back. -/
module

public import proofs.«01_k».proof.Proof.Turns

@[expose] public section

set_option synthInstance.maxSize 4096

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Dev nD → Vec F S128x4096 .f32) (W : Dev nD → S4096x8192.Idx → F .f32)
variable (K : GSem nD τ sig → ℕ) (c : Dev nD)

/-! ## The device's number -/

/-- The word that holds the device's number. -/
abbrev posPts (c : Dev nD) : sProp 𝕄 := posM.view.loc (c : Thread nD τ) ↦[Finset.univ]{fullShare} (fun _ => wd c : S1.Idx → BitVec 32)

theorem pos_wp : posPts (F := F) c ⊢ Wp c (smemLoad posM (Rect.unit (s := S1) ![0] S1.size inb_S1_S1_0) numel1_S1 rfl)
    fun v => iprop(⌜v = wd c⌝ ∗ posPts (F := F) c) := by
  unfold smemLoad
  iintro Hp
  iapply (wp_smemLoadElt Variants.none (c : Thread nD τ) none Set.univ (m := posM) (r := Rect.unit (s := S1) ![0] S1.size inb_S1_S1_0)
    (S := Finset.univ) (f := (fun _ => wd c : S1.Idx → BitVec 32)) (Finset.subset_univ _)) $$ Hp
  iintro Hp
  rw [wp_ret]
  imodintro
  isplitr
  · ipureintro; rfl
  · iexact Hp

/-! ## Runs of one kind of step -/

theorem signals_wp (hw : k0_chk1 (wd c)) (O : CellTallies nD τ sig Unit) (l : List (Fin 31)) :
    iprop(Ctx X W K c ∗ sepAll (sigPre c) l ∗ Owing c (O + oweBars c l))
      ⊢ Wp c (runAll (signalStep (F := F) (wd c) hw) l) fun _ => Owing c O := by
  have h := wp_runAll (F := F) c (p := signalStep (wd c) hw) (Pre := sigPre c) (Post := fun _ => iprop(emp))
    (fun l => iprop(Ctx X W K c ∗ Owing c (O + oweBars c l))) (fun i l => by
      iintro ⟨Hs, #HC, HO⟩
      iapply (wp_wand _ _ _) $$ [Hs HO]
      · iapply (signal_wp X W K c hw (O + oweBars c l) i)
        isplitr; · iexact HC
        isplitl [Hs]; · iexact Hs
        rw [show O + oweBars c l + tallyAt (barCell (peer c i)) () 1 = O + oweBars c (i :: l) from add_assoc _ _ _]
        iexact HO
      iintro %_ HO
      isplitr; · iempintro
      isplitr; · iexact HC
      iexact HO) l
  iintro ⟨#HC, Hs, HO⟩
  iapply (wp_wand _ _ _) $$ [Hs HO]
  · iapply h
    isplitl [Hs]; · iexact Hs
    isplitr; · iexact HC
    iexact HO
  iintro %_ ⟨-, -, HO⟩
  rw [show O + oweBars c [] = O from add_zero O]
  iexact HO

theorem sents_wp (hw : k0_chk1 (wd c)) (l : List (Fin 31)) :
    iprop(Ctx X W K c ∗ sepAll (sentPre c) l ∗ Owing c 0)
      ⊢ Wp c (runAll (sentStep (F := F) oM ybM cc0_scratch3 (wd c) hw) l) fun _ => iprop(sepAll (sentPost c) l ∗ Owing c 0) := by
  have h := wp_runAll (F := F) c (p := sentStep oM ybM cc0_scratch3 (wd c) hw) (Pre := sentPre c) (Post := sentPost c)
    (fun _ => iprop(Ctx X W K c ∗ Owing c 0)) (fun i l => by
      iintro ⟨Hs, #HC, HO⟩
      iapply (wp_wand _ _ _) $$ [Hs HO]
      · iapply (sent_wp X W K c hw i)
        isplitr; · iexact HC
        isplitl [Hs] <;> iassumption
      iintro %_ ⟨Hs, HO⟩
      isplitl [Hs]; · iexact Hs
      isplitr; · iexact HC
      iexact HO) l
  iintro ⟨#HC, Hs, HO⟩
  iapply (wp_wand _ _ _) $$ [Hs HO]
  · iapply h
    isplitl [Hs]; · iexact Hs
    isplitr; · iexact HC
    iexact HO
  iintro %_ ⟨Hs, -, HO⟩
  isplitl [Hs] <;> iassumption

theorem recvs_wp (l : List (Fin 32)) :
    iprop(Ctx X W K c ∗ sepAll (recvPre X W c) l ∗ Owing c 0)
      ⊢ Wp c (recvAll (F := F) oM ybM cc0_scratch4 (wd c) (pure ⟨⟩) l) fun _ => iprop(sepAll (recvPost X W c) l ∗ Owing c 0) := by
  iintro ⟨#HC, Hs, HO⟩
  iapply (recvAll_wp X W K c (pure ⟨⟩) _ l)
  isplitr; · iexact HC
  isplitl [Hs HO]
  · isplitl [Hs] <;> iassumption
  iintro H
  rw [Wp, wp_pure]
  imodintro
  iexact H

theorem recvs_sents_wp (hw : k0_chk1 (wd c)) (l : List (Fin 32)) (l' : List (Fin 31)) :
    iprop(Ctx X W K c ∗ sepAll (recvPre X W c) l ∗ sepAll (sentPre c) l' ∗ Owing c 0)
      ⊢ Wp c (recvAll (F := F) oM ybM cc0_scratch4 (wd c) (runAll (sentStep oM ybM cc0_scratch3 (wd c) hw) l') l) fun _ =>
        iprop(sepAll (recvPost X W c) l ∗ sepAll (sentPost c) l' ∗ Owing c 0) := by
  iintro ⟨#HC, Hr, Hs, HO⟩
  iapply (recvAll_wp X W K c _ _ l)
  isplitr; · iexact HC
  isplitl [Hr HO]
  · isplitl [Hr] <;> iassumption
  iintro ⟨Hr, HO⟩
  iapply (wp_wand _ _ _) $$ [Hs HO]
  · iapply (sents_wp X W K c hw l')
    isplitr; · iexact HC
    isplitl [Hs] <;> iassumption
  iintro %_ ⟨Hs, HO⟩
  isplitl [Hr]; · iexact Hr
  isplitl [Hs] <;> iassumption

/-! ## Opening: the signals, the barrier, the first copies, the device's own tile -/

/-- What a device holds for tile `i` before the barrier. -/
def tileHeld (c : Dev nD) (i : Fin 31) : sProp 𝕄 :=
  iprop((dutyTok ER (sendCell c i) 0 c ∗ dutyTok ER (recvCell (peer c i) c) 0 c) ∗ (∃ f, yPts (F := F) c i f) ∗ atPos ER (sendCell c i) 0 ∅ 0)

/-- The credit to wait with, for every device but this one. -/
def recvCred (c : Dev nD) (s : Fin 32) : sProp 𝕄 := if s = c then iprop(emp) else cred (tallyAt (recvCell c s) () N)

/-- The barrier's payloads complete what the tiles need. -/
theorem tiles_ready : iprop((bigSep Finset.univ fun i : Fin 31 => barPay (F := F) c (peer c i)) ∗ bigSep Finset.univ fun i : Fin 31 => tileHeld c i)
    ⊢ sepAll (tilePre c) tileOrder := by
  have h (i : Fin 31) : iprop(barPay (F := F) c (peer c i) ∗ tileHeld c i) ⊢ tilePre c i := by
    unfold tileHeld tilePre
    iintro ⟨Hb, Hd, Hy, Ha⟩
    isplitl [Hd]; · iexact Hd
    isplitl [Hb]; · iexact Hb
    isplitl [Hy] <;> iassumption
  rw [sepAll_univ (tilePre c) tileOrder (by decide) (by decide), ← bigSep_sep']
  exact bigSep_mono fun i _ => h i

/-- The order of the waits for arrivals. -/
abbrev arrivals : List (Fin 32) :=
  [0, 1, 2, 3, 4, 5, 6] ++ ([7, 8, 9, 10, 11, 12, 13, 14, 15, 16] ++ ([17, 18, 19, 20, 21, 22, 23, 24, 25, 26] ++ [27, 28, 29, 30, 31]))

/-- The device's own tile stands for the arrival that it does not wait for. -/
theorem arrivals_ready : iprop(oPts c c (resultOf X W c) ∗ (bigSep Finset.univ fun s : Fin 32 => recvCred (F := F) c s)
      ∗ bigSep Finset.univ fun s : Fin 32 => atPos (ER : Emb UT 𝕄) (recvCell c s) 0 ∅ 0)
    ⊢ sepAll (recvPre X W c) arrivals := by
  rw [sepAll_univ (recvPre X W c) arrivals (by decide) (by decide)]
  have h := bigSep_univ_update (Φ := fun s : Fin 32 => recvCred (F := F) c s) (Ψ := fun s => recvHeld X W c s) c
    fun s hs => by unfold recvCred recvHeld; rw [if_neg hs, if_neg hs]
  have e : recvHeld X W c c = oPts c c (resultOf X W c) := if_pos rfl
  have hp : iprop((bigSep Finset.univ fun s : Fin 32 => recvHeld X W c s) ∗ bigSep Finset.univ fun s : Fin 32 => atPos (ER : Emb UT 𝕄) (recvCell c s) 0 ∅ 0)
      ⊢ bigSep Finset.univ fun s : Fin 32 => recvPre X W c s := by
    rw [← bigSep_sep']
    exact .rfl
  iintro ⟨Ho, Hc, Ha⟩
  ihave H := h $$ Hc
  icases H with ⟨-, H⟩
  iapply hp
  isplitr [Ha]
  · iapply H
    rw [e]
    iexact Ho
  · iexact Ha

/-- What a device is given at the body's entry. -/
def bodyPre : sProp 𝕄 :=
  iprop((cred (tallyAt (barCell c) () 31) ∗ atPos ER (barCell c) 0 ∅ 0)
    ∗ sepAll (sigPre c) dists
    ∗ slotsAt W c (fun _ => none)
    ∗ (posPts c ∗ xPts X c ∗ ∃ f, oPts c c f)
    ∗ (bigSep Finset.univ fun i : Fin 31 => tileHeld c i)
    ∗ (bigSep Finset.univ fun s : Fin 32 => recvCred c s)
    ∗ bigSep Finset.univ fun s : Fin 32 => atPos (ER : Emb UT 𝕄) (recvCell c s) 0 ∅ 0)

/-- What it hands back. -/
def bodyPost : sProp 𝕄 :=
  iprop(semVal (barCell c) 0 ∗ slotsAt W c (fun _ => none) ∗ (posPts c ∗ xPts X c)
    ∗ (bigSep Finset.univ fun s : Fin 32 => recvPost X W c s) ∗ bigSep Finset.univ fun i : Fin 31 => sentPost (F := F) c i)

/-- The order of the waits for sent tiles. -/
theorem order_eq : tileOrder = [15, 14] ++ ([16, 13, 17, 12, 18, 11, 19, 10, 20, 9, 21, 8, 22, 7, 23, 6, 24, 5, 25, 4, 26, 3, 27, 2, 28]
    ++ [1, 29, 0, 30]) := by decide

theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The slots once the first four copies have been started and the first of them used. -/
theorem slots_first : iprop(slotFree W c 0 ∗ slotBusy W c 1 16 ∗ slotBusy W c 2 15 ∗ slotBusy W c 3 17)
    ⊢ slotsAt W c ![none, some 16, some 15, some 17] := by
  unfold slotsAt
  rw [bigSep_four]
  exact .rfl

theorem slots_none : slotsAt W c (fun _ => none) ⊢ iprop(slotFree W c 0 ∗ slotFree W c 1 ∗ slotFree W c 2 ∗ slotFree W c 3) := by
  unfold slotsAt
  rw [bigSep_four]
  exact .rfl

/-- The tiles to wait for, in the runs the waits come in. -/
theorem sent_runs (Φ : Fin 31 → sProp 𝕄) : sepAll Φ tileOrder
    = iprop(sepAll Φ [15, 14] ∗ sepAll Φ [16, 13, 17, 12, 18, 11, 19, 10, 20, 9, 21, 8, 22, 7, 23, 6, 24, 5, 25, 4, 26, 3, 27, 2, 28]
      ∗ sepAll Φ [1, 29, 0, 30]) := by
  rw [order_eq, sepAll_append, sepAll_append]

/-- The devices to wait for, in the runs the waits come in. -/
theorem recv_runs (Φ : Fin 32 → sProp 𝕄) : sepAll Φ arrivals
    = iprop(sepAll Φ [0, 1, 2, 3, 4, 5, 6] ∗ sepAll Φ [7, 8, 9, 10, 11, 12, 13, 14, 15, 16]
      ∗ sepAll Φ [17, 18, 19, 20, 21, 22, 23, 24, 25, 26] ∗ sepAll Φ [27, 28, 29, 30, 31]) := by
  rw [sepAll_append, sepAll_append, sepAll_append]

theorem head_wp :
    iprop(Ctx X W K c ∗ bodyPre X W c ∗ Owing c (O₀ c))
      ⊢ Wp c (headSteps (F := F) posM xM wM oM wbM ybM cc0_scratch2 cc0_scratch3 cc0_scratch4) fun r =>
        iprop(⌜r.1 = wd c⌝ ∗ semVal (barCell c) 0 ∗ slotsAt W c (fun _ => none) ∗ (posPts c ∗ xPts X c)
          ∗ (bigSep Finset.univ fun s : Fin 32 => recvPost X W c s)
          ∗ (sepAll (sentPost c) [15, 14] ∗ sepAll (sentPost c) [16, 13, 17, 12, 18, 11, 19, 10, 20, 9, 21, 8, 22, 7, 23, 6, 24, 5, 25, 4, 26, 3, 27, 2, 28])
          ∗ sepAll (sentPre c) [1, 29, 0, 30] ∗ Owing c 0) := by
  have hw := chk c
  unfold headSteps bodyPre
  iintro ⟨#HC, ⟨Hbar, Hsig, Hslots, ⟨Hpos, Hx, Hown⟩, Htiles, Hcred, Hat⟩, HO⟩
  iapply (wp_then c (pos_wp c)) $$ Hpos
  iintro %v ⟨%hv, Hpos⟩
  subst hv
  iapply (wp_assume Variants.none (c : Thread nD τ) none Set.univ hw)
  dsimp only [Prog.lift]
  iapply (wp_then c (signals_wp X W K c hw (oweTiles c tileOrder) dists)) $$ [Hsig HO]
  · isplitr; · iexact HC
    isplitl [Hsig]; · iexact Hsig
    unfold O₀; iexact HO
  iintro %_ HO
  iapply (wp_then c (barrier_wp X W K c)) $$ [Hbar HO]
  · isplitr; · iexact HC
    isplitl [Hbar] <;> iassumption
  iintro %_ ⟨⟨Hv, Hpays⟩, HO⟩
  ihave Hs := slots_none W c $$ Hslots
  icases Hs with ⟨H0, H1, H2, H3⟩
  iapply (wp_then c (start_wp W c hw 0 0)) $$ H0
  iintro %_ H0
  iapply (wp_then c (start_wp W c hw 1 16)) $$ H1
  iintro %_ H1
  iapply (wp_then c (start_wp W c hw 2 15)) $$ H2
  iintro %_ H2
  iapply (wp_then c (rows_wp X c)) $$ Hx
  iintro %x ⟨%hx, Hx⟩
  subst hx
  iapply (wp_then c (start_wp W c hw 3 17)) $$ H3
  iintro %_ H3
  iapply (wp_then c (own_wp X W K c hw tileOrder)) $$ [H0 Hown HO]
  · isplitr; · iexact HC
    isplitl [H0]; · iexact H0
    isplitl [Hown] <;> iassumption
  iintro %_ ⟨H0, Hown, HO⟩
  iapply (wp_then c (loop_wp X W K c hw turns _ tileOrder turns_fit)) $$ [H0 H1 H2 H3 Hpays Htiles HO]
  · isplitr; · iexact HC
    isplitl [H0 H1 H2 H3]
    · iapply (slots_first W c)
      isplitl [H0]; · iexact H0
      isplitl [H1]; · iexact H1
      isplitl [H2] <;> iassumption
    isplitl [Hpays Htiles]
    · iapply (tiles_ready c)
      isplitl [Hpays] <;> iassumption
    · iexact HO
  iintro %_ ⟨Hslots, Hsent, HO⟩
  ihave Hr := (arrivals_ready X W c) $$ [Hown Hcred Hat]
  · isplitl [Hown]; · iexact Hown
    isplitl [Hcred] <;> iassumption
  ihave Hsent := (Entails.of_eq (sent_runs (sentPre (F := F) c))) $$ Hsent
  ihave Hr := (Entails.of_eq (recv_runs (recvPre X W c))) $$ Hr
  icases Hsent with ⟨Hs0, Hs1, Hs2⟩
  icases Hr with ⟨Hr0, Hr1, Hr2, Hr3⟩
  iapply (wp_then c (recvs_wp X W K c _)) $$ [Hr0 HO]
  · isplitr; · iexact HC
    isplitl [Hr0] <;> iassumption
  iintro %_ ⟨Hr0, HO⟩
  iapply (wp_then c (recvs_wp X W K c _)) $$ [Hr1 HO]
  · isplitr; · iexact HC
    isplitl [Hr1] <;> iassumption
  iintro %_ ⟨Hr1, HO⟩
  iapply (wp_then c (recvs_wp X W K c _)) $$ [Hr2 HO]
  · isplitr; · iexact HC
    isplitl [Hr2] <;> iassumption
  iintro %_ ⟨Hr2, HO⟩
  iapply (wp_then c (recvs_sents_wp X W K c hw _ _)) $$ [Hr3 Hs0 HO]
  · isplitr; · iexact HC
    isplitl [Hr3]; · iexact Hr3
    isplitl [Hs0] <;> iassumption
  iintro %_ ⟨Hr3, Hs0, HO⟩
  iapply (wp_then c (sents_wp X W K c hw _)) $$ [Hs1 HO]
  · isplitr; · iexact HC
    isplitl [Hs1] <;> iassumption
  iintro %_ ⟨Hs1, HO⟩
  rw [Wp, wp_pure]
  imodintro
  isplitr; · ipureintro; rfl
  isplitl [Hv]; · iexact Hv
  isplitl [Hslots]; · iexact Hslots
  isplitl [Hpos Hx]
  · isplitl [Hpos] <;> iassumption
  isplitl [Hr0 Hr1 Hr2 Hr3]
  · rw [← sepAll_univ (recvPost X W c) arrivals (by decide) (by decide), recv_runs]
    isplitl [Hr0]; · iexact Hr0
    isplitl [Hr1]; · iexact Hr1
    isplitl [Hr2] <;> iassumption
  isplitl [Hs0 Hs1]
  · isplitl [Hs0] <;> iassumption
  isplitl [Hs2] <;> iassumption

/-- The body, on device `c`: its window ends up holding every sender's tile, and every cell is back at zero. -/
theorem body_wp :
    iprop(Ctx X W K c ∗ bodyPre X W c ∗ Owing c (O₀ c))
      ⊢ Wp c (cc0_body (F := F) posM (Memref.isWhole_whole _) xM (Memref.isWhole_whole _) wM (Memref.isWhole_whole _) oM (Memref.isWhole_whole _)
          wbM (Memref.isWhole_whole _) ybM (Memref.isWhole_whole _) cc0_scratch2 cc0_scratch3 cc0_scratch4) fun _ =>
        iprop(bodyPost X W c ∗ Owing c 0) := by
  rw [body_eq, head_eq]
  iintro ⟨#HC, HP, HO⟩
  iapply (wp_then c (head_wp X W K c)) $$ [HP HO]
  · isplitr; · iexact HC
    isplitl [HP] <;> iassumption
  iintro %r ⟨%hr, Hv, Hslots, Hin, Hr, ⟨Hs0, Hs1⟩, Hs2, HO⟩
  obtain ⟨v, hw⟩ := r
  subst hr
  iapply (wp_wand _ _ _) $$ [Hs2 HO]
  · iapply (sents_wp X W K c hw _)
    isplitr; · iexact HC
    isplitl [Hs2] <;> iassumption
  iintro %_ ⟨Hs2, HO⟩
  isplitr [HO]
  · unfold bodyPost
    isplitl [Hv]; · iexact Hv
    isplitl [Hslots]; · iexact Hslots
    isplitl [Hin]; · iexact Hin
    isplitl [Hr]; · iexact Hr
    rw [← sepAll_univ (sentPost c) tileOrder (by decide) (by decide), sent_runs]
    isplitl [Hs0]; · iexact Hs0
    isplitl [Hs1] <;> iassumption
  · iexact HO

end Cert.KernelIdeal.Talk

end
-- ==== Proof.Edges.lean ====
/- A device's whole buffers and the parts the body works with: what the device holds when its region starts
   is what the body is given, and what the body hands back is whole buffers again. -/
module

public import proofs.«01_k».proof.Proof.Body

@[expose] public section
set_option synthInstance.maxSize 4096

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Dev nD → Vec F S128x4096 .f32) (W : Dev nD → S4096x8192.Idx → F .f32)
variable (K : GSem nD τ sig → ℕ) (c : Dev nD)

/-! ## Whole buffers and their parts -/

/-- A buffer at some contents is its parts, each at some contents. -/
theorem pts_split {T : Type} [Fintype T] [DecidableEq T] (ℓ : Loc nD τ sig) (P : T → Finset (Idx ℓ))
    (hd : Set.PairwiseDisjoint (↑(Finset.univ : Finset T)) P) (hc : Finset.univ.biUnion P = Finset.univ) :
    (iprop(∃ f : Buf (Elt F) ℓ, ℓ ↦{fullShare} f) : sProp 𝕄) ⊢ bigSep Finset.univ fun t : T => iprop(∃ f : Buf (Elt F) ℓ, ℓ ↦[P t]{fullShare} f) := by
  have h (f : Buf (Elt F) ℓ) : (ℓ ↦{fullShare} f : sProp 𝕄) ⊢ bigSep Finset.univ fun t : T => iprop(∃ f : Buf (Elt F) ℓ, ℓ ↦[P t]{fullShare} f) := by
    have e : (ℓ ↦[Finset.univ.biUnion P]{fullShare} f : sProp 𝕄) = bigSep Finset.univ fun t : T => ℓ ↦[P t]{fullShare} f :=
      pointsTo_biUnion (Finset.univ : Finset T) P fun t ht t' ht' hne => hd ht ht' hne
    rw [hc] at e
    refine (Entails.of_eq e).trans ?_
    have h1 (t : T) : (ℓ ↦[P t]{fullShare} f : sProp 𝕄) ⊢ iprop(∃ f : Buf (Elt F) ℓ, ℓ ↦[P t]{fullShare} f) := by
      iintro H
      iexists f
      iexact H
    exact bigSep_mono fun t _ => h1 t
  iintro ⟨%f, H⟩
  iapply (h f)
  iexact H

/-- Parts that cover a buffer, each at some contents, are the buffer at some contents. -/
theorem pts_join {T : Type} [Fintype T] [DecidableEq T] (ℓ : Loc nD τ sig) (P : T → Finset (Idx ℓ)) (f₀ : Buf (Elt F) ℓ)
    (hd : Set.PairwiseDisjoint (↑(Finset.univ : Finset T)) P) (hc : Finset.univ.biUnion P = Finset.univ) :
    (bigSep Finset.univ fun t : T => (iprop(∃ f : Buf (Elt F) ℓ, ℓ ↦[P t]{fullShare} f) : sProp 𝕄)) ⊢ (iprop(∃ f : Buf (Elt F) ℓ, ℓ ↦{fullShare} f) : sProp 𝕄) := by
  have h (fs : T → Buf (Elt F) ℓ) : (bigSep Finset.univ fun t : T => (ℓ ↦[P t]{fullShare} fs t : sProp 𝕄)) ⊢ (iprop(∃ f : Buf (Elt F) ℓ, ℓ ↦{fullShare} f) : sProp 𝕄) := by
    have e := pointsTo_biUnion_join (q := fullShare) (Ix := Unit) (Name := ℕ) (U := UU) (Lvl := ℕ) (Finset.univ : Finset T) P fs f₀ fun t ht t' ht' hne => hd ht ht' hne
    rw [hc] at e
    refine e.trans ?_
    iintro ⟨%g, -, H⟩
    iexists g
    iexact H
  refine (bigSep_exists_pi Finset.univ fun (t : T) (f : Buf (Elt F) ℓ) => (ℓ ↦[P t]{fullShare} f : sProp 𝕄)).trans ?_
  iintro ⟨%fs, H⟩
  iapply (h fs)
  iexact H

/-- Parts that cover a buffer, all at the same contents, are the buffer at these. -/
theorem pts_whole {T : Type} [Fintype T] [DecidableEq T] (ℓ : Loc nD τ sig) (P : T → Finset (Idx ℓ)) (f : Buf (Elt F) ℓ)
    (hd : Set.PairwiseDisjoint (↑(Finset.univ : Finset T)) P) (hc : Finset.univ.biUnion P = Finset.univ) :
    (bigSep Finset.univ fun t : T => (ℓ ↦[P t]{fullShare} f : sProp 𝕄)) ⊢ (ℓ ↦{fullShare} f : sProp 𝕄) := by
  have e : (ℓ ↦[Finset.univ.biUnion P]{fullShare} f : sProp 𝕄) = bigSep Finset.univ fun t : T => ℓ ↦[P t]{fullShare} f :=
    pointsTo_biUnion (Finset.univ : Finset T) P fun t ht t' ht' hne => hd ht ht' hne
  rw [hc] at e
  exact Entails.of_eq e.symm

/-- The buffer of tiles as its slots. -/
theorem y_split : (iprop(∃ f : Buf (Elt F) ((c : Thread nD τ).loc cc0_scratch1), ((c : Thread nD τ).loc cc0_scratch1) ↦{fullShare} f) : sProp 𝕄)
    ⊢ bigSep Finset.univ fun i : Fin 31 => iprop(∃ f, yPts (F := F) c i f) :=
  pts_split ((c : Thread nD τ).loc cc0_scratch1) ySet yPart_disjoint yPart_cover

theorem y_join (f₀ : S31x128x256.Idx → F .f32) : (bigSep Finset.univ fun i : Fin 31 => iprop(∃ f, yPts (F := F) c i f))
    ⊢ (iprop(∃ f : Buf (Elt F) ((c : Thread nD τ).loc cc0_scratch1), ((c : Thread nD τ).loc cc0_scratch1) ↦{fullShare} f) : sProp 𝕄) :=
  pts_join ((c : Thread nD τ).loc cc0_scratch1) ySet f₀ yPart_disjoint yPart_cover

/-- The buffer of weights as its slots. -/
theorem w_split : (iprop(∃ f : Buf (Elt F) ((c : Thread nD τ).loc cc0_scratch0), ((c : Thread nD τ).loc cc0_scratch0) ↦{fullShare} f) : sProp 𝕄)
    ⊢ bigSep Finset.univ fun k : Fin 4 => iprop(∃ f, wPts (F := F) c k f) :=
  pts_split ((c : Thread nD τ).loc cc0_scratch0) wSet wPart_disjoint wPart_cover

theorem w_join (f₀ : S4x4096x256.Idx → F .f32) : (bigSep Finset.univ fun k : Fin 4 => iprop(∃ f, wPts (F := F) c k f))
    ⊢ (iprop(∃ f : Buf (Elt F) ((c : Thread nD τ).loc cc0_scratch0), ((c : Thread nD τ).loc cc0_scratch0) ↦{fullShare} f) : sProp 𝕄) :=
  pts_join ((c : Thread nD τ).loc cc0_scratch0) wSet f₀ wPart_disjoint wPart_cover

/-- The window of results as the rows of its senders. -/
theorem o_split : (iprop(∃ f : Buf (Elt F) ((c : Thread nD τ).loc cc0_stg2_0), ((c : Thread nD τ).loc cc0_stg2_0) ↦{fullShare} f) : sProp 𝕄)
    ⊢ bigSep Finset.univ fun s : Dev nD => iprop(∃ f, oPts (F := F) c s f) :=
  pts_split ((c : Thread nD τ).loc cc0_stg2_0) oSet oPart_disjoint oPart_cover

/-- Of which one is the device's own and one that of each other device. -/
theorem o_others : (bigSep Finset.univ fun s : Dev nD => iprop(∃ f, oPts (F := F) c s f))
    ⊢ iprop((∃ f, oPts (F := F) c c f) ∗ bigSep Finset.univ fun i : Fin 31 => iprop(∃ f, oPts (F := F) c (peer c i) f)) := by
  rw [bigSep_univ_at (fun s : Dev nD => iprop(∃ f, oPts (F := F) c s f)) c, peers, bigSep_map]
  exact .rfl

theorem o_join (f : S4096x256.Idx → F .f32) : (bigSep Finset.univ fun s : Dev nD => oPts (F := F) c s f)
    ⊢ ((((c : Thread nD τ).loc cc0_stg2_0) ↦{fullShare} f) : sProp 𝕄) :=
  pts_whole ((c : Thread nD τ).loc cc0_stg2_0) oSet f oPart_disjoint oPart_cover

/-- The weights in memory. -/
abbrev wWhole : sProp 𝕄 := ((c : Thread nD τ).loc main_arg1) ↦{fullShare} W c

/-- Their share for each slot. -/
theorem wWhole_deal : (wWhole W c : sProp 𝕄) = bigSep Finset.univ fun k : Fin 4 => wRead W c k :=
  Transfers.pointsTo_deal (ℓ := (c : Thread nD τ).loc main_arg1) (Finset.univ : Finset (Fin 4)) Finset.univ_nonempty fullShare

/-! ## The slots -/

/-- The counters of the four local copies. -/
abbrev copyVals : sProp 𝕄 := bigSep Finset.univ fun k : Fin 4 => semVal (copyCell c k) 0

theorem slots_intro : iprop((copyVals (F := F) c) ∗ (∃ f : Buf (Elt F) ((c : Thread nD τ).loc cc0_scratch0), ((c : Thread nD τ).loc cc0_scratch0) ↦{fullShare} f) ∗ wWhole W c)
    ⊢ slotsAt W c fun _ => none := by
  have h : iprop((copyVals (F := F) c) ∗ (bigSep Finset.univ fun k : Fin 4 => iprop(∃ f, wPts (F := F) c k f)) ∗ bigSep Finset.univ fun k : Fin 4 => wRead W c k)
      ⊢ slotsAt W c fun _ => none := by
    rw [← bigSep_sep', ← bigSep_sep']
    exact .rfl
  rw [wWhole_deal]
  iintro ⟨Hv, Hs, Hw⟩
  iapply h
  isplitl [Hv]; · iexact Hv
  isplitl [Hs]; · iapply (w_split c); iexact Hs
  iexact Hw

theorem slots_elim (f₀ : S4x4096x256.Idx → F .f32) : slotsAt W c (fun _ => none)
    ⊢ iprop((copyVals (F := F) c) ∗ (∃ f : Buf (Elt F) ((c : Thread nD τ).loc cc0_scratch0), ((c : Thread nD τ).loc cc0_scratch0) ↦{fullShare} f) ∗ wWhole W c) := by
  have h : slotsAt W c (fun _ => none)
      ⊢ iprop((copyVals (F := F) c) ∗ (bigSep Finset.univ fun k : Fin 4 => iprop(∃ f, wPts (F := F) c k f)) ∗ bigSep Finset.univ fun k : Fin 4 => wRead W c k) := by
    rw [← bigSep_sep', ← bigSep_sep']
    exact .rfl
  rw [wWhole_deal]
  iintro H
  ihave H := h $$ H
  icases H with ⟨Hv, Hs, Hw⟩
  isplitl [Hv]; · iexact Hv
  isplitl [Hs]; · iapply (w_join c f₀); iexact Hs
  iexact Hw

/-! ## Entry -/

/-- What a device brings to its region for the exchange: the barrier's credit and its place there, the tokens of the
    signals it gives, for every tile the tokens of its two duties and its place at the send cell, the credit and the
    place at every receive cell. -/
def talkHand : sProp 𝕄 :=
  iprop((cred (tallyAt (barCell c) () 31) ∗ atPos ER (barCell c) 0 ∅ 0)
    ∗ (bigSep Finset.univ fun i : Fin 31 => dutyTok ER (barCell (peer c i)) 0 c)
    ∗ (bigSep Finset.univ fun i : Fin 31 => iprop(dutyTok ER (sendCell c i) 0 c ∗ dutyTok ER (recvCell (peer c i) c) 0 c))
    ∗ (bigSep Finset.univ fun i : Fin 31 => atPos (ER : Emb UT 𝕄) (sendCell c i) 0 ∅ 0)
    ∗ (bigSep Finset.univ fun s : Fin 32 => recvCred c s)
    ∗ bigSep Finset.univ fun s : Fin 32 => atPos (ER : Emb UT 𝕄) (recvCell c s) 0 ∅ 0)

/-- The scoped buffers of the region that are no window's. -/
abbrev scratch : sProp 𝕄 := Pipeline.scopedRest (Ix := Unit) (Name := ℕ) (U := UU) (Lvl := ℕ) (Val := Elt F) spec0 c

theorem enter : iprop((talkHand (F := F) c ∗ copyVals c) ∗ scratch c ∗ wWhole W c ∗ (posPts c ∗ xPts X c)
      ∗ (∃ f : Buf (Elt F) ((c : Thread nD τ).loc cc0_stg2_0), ((c : Thread nD τ).loc cc0_stg2_0) ↦{fullShare} f)) ⊢ bodyPre X W c := by
  have hsig : iprop((bigSep Finset.univ fun i : Fin 31 => dutyTok (ER : Emb UT 𝕄) (barCell (peer c i)) 0 c)
      ∗ bigSep Finset.univ fun i : Fin 31 => iprop(∃ f, oPts (F := F) c (peer c i) f)) ⊢ sepAll (sigPre c) dists := by
    rw [sepAll_univ (sigPre c) dists (by decide) (by decide), ← bigSep_sep']
    exact .rfl
  have htile : iprop((bigSep Finset.univ fun i : Fin 31 => iprop(dutyTok (ER : Emb UT 𝕄) (sendCell c i) 0 c ∗ dutyTok ER (recvCell (peer c i) c) 0 c))
      ∗ (bigSep Finset.univ fun i : Fin 31 => iprop(∃ f, yPts (F := F) c i f))
      ∗ bigSep Finset.univ fun i : Fin 31 => atPos (ER : Emb UT 𝕄) (sendCell c i) 0 ∅ 0) ⊢ bigSep Finset.univ fun i : Fin 31 => tileHeld c i := by
    rw [← bigSep_sep', ← bigSep_sep']
    exact .rfl
  unfold talkHand bodyPre scratch
  rw [scopedRest0_eq]
  iintro ⟨⟨⟨Hbar, Htb, Htt, Hat, Hrc, Har⟩, Hv⟩, ⟨Hs0, Hs1⟩, Hw, ⟨Hp, Hx⟩, Ho⟩
  ihave Ho := (o_split c) $$ Ho
  ihave Ho := (o_others c) $$ Ho
  icases Ho with ⟨Hoc, Hoo⟩
  isplitl [Hbar]; · iexact Hbar
  isplitl [Htb Hoo]
  · iapply hsig
    isplitl [Htb] <;> iassumption
  isplitl [Hv Hs0 Hw]
  · iapply (slots_intro W c)
    isplitl [Hv]; · iexact Hv
    isplitl [Hs0] <;> iassumption
  isplitl [Hp Hx Hoc]
  · isplitl [Hp]; · iexact Hp
    isplitl [Hx] <;> iassumption
  isplitl [Htt Hs1 Hat]
  · iapply htile
    isplitl [Htt]; · iexact Htt
    isplitl [Hs1]
    · iapply (y_split c); iexact Hs1
    iexact Hat
  isplitl [Hrc] <;> iassumption

/-! ## Exit -/

/-- The counters of the exchange, all at zero. -/
abbrev talkVals : sProp 𝕄 := bigSep Finset.univ fun t : Fin 31 ⊕ Fin 32 => semVal ((c : Thread nD τ), talkSem t) 0

theorem leave (f₀ : S4x4096x256.Idx → F .f32) (f₁ : S31x128x256.Idx → F .f32) : bodyPost X W c
    ⊢ iprop(semVal (barCell c) 0 ∗ (copyVals (F := F) c ∗ talkVals c) ∗ scratch c ∗ wWhole W c ∗ (posPts c ∗ xPts X c)
      ∗ (((c : Thread nD τ).loc cc0_stg2_0) ↦{fullShare} resultOf X W c)) := by
  have hs : (bigSep Finset.univ fun i : Fin 31 => sentPost (F := F) c i)
      ⊢ iprop((bigSep Finset.univ fun i : Fin 31 => semVal (sendCell c i) 0) ∗ bigSep Finset.univ fun i : Fin 31 => iprop(∃ f, yPts (F := F) c i f)) := by
    rw [← bigSep_sep']
    exact .rfl
  have hr : (bigSep Finset.univ fun s : Fin 32 => recvPost X W c s)
      ⊢ iprop((bigSep Finset.univ fun s : Fin 32 => semVal (recvCell c s) 0) ∗ bigSep Finset.univ fun s : Fin 32 => oPts c s (resultOf X W c)) := by
    rw [← bigSep_sep']
    exact .rfl
  have hv : iprop((bigSep Finset.univ fun i : Fin 31 => semVal (sendCell c i) 0) ∗ bigSep Finset.univ fun s : Fin 32 => semVal (recvCell c s) 0)
      ⊢ (talkVals c : sProp 𝕄) := by
    exact Entails.of_eq (bigSep_univ_sum (fun t : Fin 31 ⊕ Fin 32 => (semVal ((c : Thread nD τ), talkSem t) 0 : sProp 𝕄))).symm
  unfold bodyPost scratch
  rw [scopedRest0_eq]
  iintro ⟨Hb, Hsl, Hin, Hr, Hs⟩
  ihave Hs := hs $$ Hs
  icases Hs with ⟨Hsv, Hy⟩
  ihave Hr := hr $$ Hr
  icases Hr with ⟨Hrv, Ho⟩
  ihave Hsl := (slots_elim W c f₀) $$ Hsl
  icases Hsl with ⟨Hcv, Hs0, Hw⟩
  isplitl [Hb]; · iexact Hb
  isplitl [Hcv Hsv Hrv]
  · isplitl [Hcv]; · iexact Hcv
    iapply hv
    isplitl [Hsv] <;> iassumption
  isplitl [Hs0 Hy]
  · isplitl [Hs0]; · iexact Hs0
    iapply (y_join c f₁); iexact Hy
  isplitl [Hw]; · iexact Hw
  isplitl [Hin]; · iexact Hin
  iapply (o_join c); iexact Ho

end Cert.KernelIdeal.Talk

end
-- ==== Proof.Region.lean ====
/- The kernel's region on one device: its three windows (the device's number, its rows, the result), what the body's
   invariant says before and after the one grid point, and the segment record of the launch. -/
module

public import proofs.«01_k».proof.Proof.Edges
public import proofs.«01_k».proof.Proof.Gen.KernelIdeal.Points

@[expose] public section
set_option synthInstance.maxSize 4096

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (c : Dev nD)

/-! ## What the devices hold -/

/-- The rows of the devices at launch. -/
abbrev Xs (m : (ℓ : Loc nD τ sig) → Buf (Elt F) ℓ) (c : Dev nD) : Vec F S128x4096 .f32 := m ((c : Thread nD τ).loc main_arg0)
/-- Their weights at launch. -/
abbrev Ws (m : (ℓ : Loc nD τ sig) → Buf (Elt F) ℓ) (c : Dev nD) : S4096x8192.Idx → F .f32 := m ((c : Thread nD τ).loc main_arg1)

theorem word_of_dev : ∀ c : Dev nD, Host.remui (s := S_) (Host.divui (constantI S_ 32 (Dev.word c)) (constantI S_ 32 1#32)) (constantI S_ 32 32#32) = fun _ => wd c := by
  intro c
  funext i
  show IntOp.remui .vector (IntOp.divui .vector (Dev.word c) 1#32) 32#32 = wd c
  revert c
  decide

/-- The host's operations before the kernel leave the device's number in the first window's array. -/
theorem V1_pos : V1 m c main_v5 = (fun _ => wd c : S1.Idx → BitVec 32) := by
  show StableHlo.after (hostOps0 c) (V0 m c) (Proc.devRef .tc main_v5) = _
  simp only [StableHlo.after_cons, StableHlo.after_nil]
  rw [StableHlo.reshape_result', StableHlo.unary_result', StableHlo.binary_result']
  rw [StableHlo.binary_result', StableHlo.binary_result_ne _ _ _ _ _ _ _ _ (r := main_c_0) (by decide), StableHlo.nullary_result',
    StableHlo.nullary_result_ne _ _ _ (r := main_c) (y := main_v1) (by decide), StableHlo.nullary_result_ne _ _ _ (r := main_c) (y := main_c_0) (by decide),
    StableHlo.nullary_result', StableHlo.nullary_result_ne _ _ _ (r := main_c_0) (y := main_v1) (by decide), StableHlo.nullary_result']
  funext i
  exact congrFun (word_of_dev c) _

theorem V1_x : V1 m c main_arg0 = Xs m c := V1_of m c main_arg0 (by decide)
theorem V1_w : V1 m c main_arg1 = Ws m c := V1_of m c main_arg1 (by decide)

/-- The device's buffers at the end: as the host left them, the result in place. -/
abbrev Vend (c : Dev nD) : Valuation τ sig (Elt F) := Function.update (V1 m c) main_v6 (resultOf (Xs m) (Ws m) c)

theorem Vend_out : Vend m c main_v6 = resultOf (Xs m) (Ws m) c := Function.update_self ..
theorem Vend_of (r : Ref sig .tc) (h : r ≠ main_v6) : Vend m c r = V1 m c r :=
  Function.update_of_ne (StableHlo.devRef_ne_of_ne h : (Proc.devRef .tc r : DevRef τ sig) ≠ Proc.devRef .tc main_v6) ..

/-! ## The body's invariant -/

/-- Before the body: everything the exchange needs, the scratch buffers, the weights, the register. -/
def before : sProp 𝕄 :=
  iprop((∃ K, Ctx (Xs m) (Ws m) K c) ∗ (talkHand (F := F) c ∗ copyVals c) ∗ scratch c ∗ wWhole (Ws m) c ∗ ∃ r, prngReg c r)

/-- After it: every counter at zero, the scratch buffers, the weights, the register. -/
def afterwards : sProp 𝕄 :=
  iprop(semVal (barCell c) 0 ∗ (copyVals (F := F) c ∗ talkVals c) ∗ scratch c ∗ wWhole (Ws m) c ∗ ∃ r, prngReg c r)

def dat (c : Dev nD) : Pipeline.Dat τ (Elt F) Unit ℕ UU ℕ cfg0 c where
  A w := V1 m c (Proc.devRef .tc (Pipeline.arrRef spec0 w))
  after w _ := match w with
    | 0 => (fun _ => wd c : S1.Idx → BitVec 32)
    | 1 => Xs m c
    | 2 => resultOf (Xs m) (Ws m) c
  Φ t := if t.val = 0 then before m c else afterwards m c
  q _ := fullShare
  owed t := if t.val = 0 then O₀ c else 0

def pdats : (p : Fin 1) → (c : Dev nD) → Pipeline.Dat τ (Elt F) Unit ℕ UU ℕ (cfgs p) c
  | 0 => dat m

theorem owed_first : (dat m c).owed 0 = O₀ c := by
  show (if ((0 : Fin (cfg0.N + 1)).val = 0) then O₀ c else 0) = O₀ c
  exact if_pos rfl
theorem owed_last : (dat m c).owed (Fin.last cfg0.N) = 0 := by
  show (if ((Fin.last cfg0.N).val = 0) then O₀ c else 0) = 0
  rw [Fin.val_last, if_neg (by rw [show cfg0.N = 1 from N_0]; decide)]
theorem phi_first : (dat m c).Φ 0 = before m c := by
  show (if ((0 : Fin (cfg0.N + 1)).val = 0) then before m c else afterwards m c) = _
  exact if_pos rfl
theorem phi_last : (dat m c).Φ (Fin.last cfg0.N) = afterwards m c := by
  show (if ((Fin.last cfg0.N).val = 0) then before m c else afterwards m c) = _
  rw [Fin.val_last, if_neg (by rw [show cfg0.N = 1 from N_0]; decide)]

theorem owing_of_owesAt (t : Fin (cfg0.N + 1)) (O : CellTallies nD τ sig Unit) (h : (dat m c).owed t = O) :
    (dat m c).owesAt () t ⊢ (Owing c O : sProp 𝕄) := by
  unfold Pipeline.Dat.owesAt Pipeline.owesWithin Owing
  rw [h]
  iintro ⟨%Wt, -, HO⟩
  iexists Wt
  iexact HO
theorem owesAt_of_owing (t : Fin (cfg0.N + 1)) (O : CellTallies nD τ sig Unit) (h : (dat m c).owed t = O) :
    (Owing c O : sProp 𝕄) ⊢ (dat m c).owesAt () t := by
  unfold Pipeline.Dat.owesAt Pipeline.owesWithin Pipeline.Dat.bound Owing
  rw [h]
  iintro ⟨%Wt, HO⟩
  iexists Wt
  isplitr
  · ipureintro; exact fun _ _ => Or.inl trivial
  · iexact HO

theorem owns_whole (b : Ref sig .tc) (v : b.ty.Contents (Elt F)) :
    (owns (Ix := Unit) (Name := ℕ) (U := UU) (Lvl := ℕ) (c : Thread nD τ) (Memref.whole b) fullShare v : sProp 𝕄)
      = iprop(∃ f : Buf (Elt F) ((c : Thread nD τ).loc b), ⌜f = v⌝ ∗ (((c : Thread nD τ).loc b) ↦{fullShare} f)) := by
  unfold owns
  simp only [Memref.view_whole, View.read_whole, View.set_whole]

theorem before_pos (t : Fin cfg0.N) (d) : (dat m c).before 0 t d = (fun _ => wd c : S1.Idx → BitVec 32) := by
  unfold Pipeline.Dat.before
  rw [if_pos (fetch0_0 t)]
  refine Eq.trans ?_ (V1_pos m c)
  rfl
/-- The block of a window that is a whole array is the array. -/
theorem emb_x (t : Fin grid0.N) (j : S128x4096.Idx) : (win0_1.blk t).view.emb j = j := by
  funext a
  refine Fin.ext ((ValueKit.view_emb_slice_whole_unit_val main_arg0 (fun a => 0 * S128x4096.size a) S128x4096.size _ j a).trans ?_)
  show 0 * _ + (j a).val = (j a).val
  rw [Nat.zero_mul, Nat.zero_add]
theorem emb_out (t : Fin grid0.N) (j : S4096x256.Idx) : (win0_2.blk t).view.emb j = j := by
  funext a
  refine Fin.ext ((ValueKit.view_emb_slice_whole_unit_val main_v6 (fun a => 0 * S4096x256.size a) S4096x256.size _ j a).trans ?_)
  show 0 * _ + (j a).val = (j a).val
  rw [Nat.zero_mul, Nat.zero_add]

theorem read_x (t : Fin grid0.N) (f : S128x4096.Idx → F .f32) : (win0_1.blk t).view.read (Elt F) f = f := by
  funext j
  rw [View.read_apply]
  exact congrArg f (emb_x t j)
theorem write_out (t : Fin grid0.N) (f g : S4096x256.Idx → F .f32) : (win0_2.blk t).view.write (Elt F) f g Finset.univ = g := by
  funext j
  have h := View.write_emb_of_mem (Val := Elt F) (v := (win0_2.blk t).view) f g (Finset.mem_univ j)
  rw [emb_out] at h
  exact h

theorem before_x (t : Fin cfg0.N) (d) : (dat m c).before 1 t d = Xs m c := by
  unfold Pipeline.Dat.before
  rw [if_pos (fetch0_1 t)]
  refine Eq.trans ?_ ((read_x t _).trans (V1_x m c))
  rfl

theorem share_full (w : Fin cfg0.W) : (dat m c).share w = fullShare := by
  unfold Pipeline.Dat.share
  split <;> rfl

/-! ## The body -/

set_option maxRecDepth 8000 in
theorem body (c : Dev nD) : Pipeline.BodyObligation (dat m c) (defs₀ (F := F)) Variants.none () Set.univ := fun t => by
  have ht : t = t0_0 := fin_N0 t
  subst ht
  rw [bigSep_W0, bigSep_W0]
  simp only [owns_whole]
  show iprop(before m c ∗ (dat m c).owesAt () t0_0.castSucc
      ∗ (∃ d, ∃ f : Buf (Elt F) ((c : Thread nD τ).loc cc0_stg0_0), ⌜f = (dat m c).before 0 t0_0 d⌝ ∗ (((c : Thread nD τ).loc cc0_stg0_0) ↦{fullShare} f))
      ∗ (∃ d, ∃ f : Buf (Elt F) ((c : Thread nD τ).loc cc0_stg1_0), ⌜f = (dat m c).before 1 t0_0 d⌝ ∗ (((c : Thread nD τ).loc cc0_stg1_0) ↦{fullShare} f))
      ∗ (∃ d, ∃ f : Buf (Elt F) ((c : Thread nD τ).loc cc0_stg2_0), ⌜f = (dat m c).before 2 t0_0 d⌝ ∗ (((c : Thread nD τ).loc cc0_stg2_0) ↦{fullShare} f)))
    ⊢ Wp c (cc0_body (F := F) posM (Memref.isWhole_whole _) xM (Memref.isWhole_whole _) wM (Memref.isWhole_whole _) oM (Memref.isWhole_whole _)
          wbM (Memref.isWhole_whole _) ybM (Memref.isWhole_whole _) cc0_scratch2 cc0_scratch3 cc0_scratch4) fun _ =>
      iprop(afterwards m c ∗ (dat m c).owesAt () t0_0.succ
        ∗ (∃ f : Buf (Elt F) ((c : Thread nD τ).loc cc0_stg0_0), ⌜f = (fun _ => wd c : S1.Idx → BitVec 32)⌝ ∗ (((c : Thread nD τ).loc cc0_stg0_0) ↦{fullShare} f))
        ∗ (∃ f : Buf (Elt F) ((c : Thread nD τ).loc cc0_stg1_0), ⌜f = Xs m c⌝ ∗ (((c : Thread nD τ).loc cc0_stg1_0) ↦{fullShare} f))
        ∗ (∃ f : Buf (Elt F) ((c : Thread nD τ).loc cc0_stg2_0), ⌜f = resultOf (Xs m) (Ws m) c⌝ ∗ (((c : Thread nD τ).loc cc0_stg2_0) ↦{fullShare} f)))
  unfold before
  iintro ⟨⟨⟨%K, #HC⟩, Hh, Hsc, Hw, Hr⟩, HO, ⟨%d0, %f0, %h0, H0⟩, ⟨%d1, %f1, %h1, H1⟩, ⟨%d2, %f2, %h2, H2⟩⟩
  obtain rfl := h0.trans (before_pos m c t0_0 d0)
  obtain rfl := h1.trans (before_x m c t0_0 d1)
  ihave HO := (owing_of_owesAt m c t0_0.castSucc (O₀ c) (owed_first m c)) $$ HO
  iapply (wp_wand _ _ _) $$ [Hh Hsc Hw H0 H1 H2 HO]
  · iapply (body_wp (Xs m) (Ws m) K c)
    isplitr; · iexact HC
    isplitr [HO]
    · iapply (enter (Xs m) (Ws m) c)
      isplitl [Hh]; · iexact Hh
      isplitl [Hsc]; · iexact Hsc
      isplitl [Hw]; · iexact Hw
      isplitl [H0 H1]
      · isplitl [H0] <;> iassumption
      iexists f2
      iexact H2
    · iexact HO
  iintro %_ ⟨HP, HO⟩
  ihave HP := (leave (Xs m) (Ws m) c (constant S4x4096x256 .f32 0x00000000#32) (constant S31x128x256 .f32 0x00000000#32)) $$ HP
  icases HP with ⟨Hb, Hv, Hsc, Hw, ⟨H0, H1⟩, H2⟩
  isplitl [Hb Hv Hsc Hw Hr]
  · unfold afterwards
    isplitl [Hb]; · iexact Hb
    isplitl [Hv]; · iexact Hv
    isplitl [Hsc]; · iexact Hsc
    isplitl [Hw] <;> iassumption
  isplitl [HO]
  · iapply (owesAt_of_owing m c t0_0.succ 0 (owed_last m c)); iexact HO
  isplitl [H0]
  · iexists (fun _ => wd c : S1.Idx → BitVec 32)
    isplitr
    · ipureintro; rfl
    · iexact H0
  isplitl [H1]
  · iexists (Xs m c)
    isplitr
    · ipureintro; rfl
    · iexact H1
  iexists (resultOf (Xs m) (Ws m) c)
  isplitr
  · ipureintro; rfl
  · iexact H2

/-! ## The region's record -/

/-- The semaphores the body uses itself: those of the local copies, then those of the exchange. -/
def osem : Fin 4 ⊕ (Fin 31 ⊕ Fin 32) → SemLoc sig
  | .inl k => .dma (copySem cc0_scratch2 k)
  | .inr t => talkSem t

theorem osem_facts : Pipeline.OwnSemFacts spec0 osem := by decide

theorem ownSems_eq : (Pipeline.ownSems0 (Ix := Unit) (Name := ℕ) (U := UU) (Lvl := ℕ) (Val := Elt F) (τ := τ) osem c : sProp 𝕄)
    = iprop(copyVals c ∗ talkVals c) :=
  bigSep_univ_sum (fun k : Fin 4 ⊕ (Fin 31 ⊕ Fin 32) => (semVal ((c : Thread nD τ), osem k) 0 : sProp 𝕄))

/-- The rights of the exchange that the launch deals to a device: its place at the barrier, the tokens of the units it
    gives and of the credit it raises, and the right to open each of its cells. -/
def dealt (c : Dev nD) : sProp 𝕄 :=
  iprop(atPos ER (barCell c) 0 ∅ 0
    ∗ ((bigSep Finset.univ fun i : Fin 31 => dutyTok ER (barCell (peer c i)) 0 c)
      ∗ bigSep Finset.univ fun i : Fin 31 => iprop(dutyTok ER (sendCell c i) 0 c ∗ dutyTok ER (recvCell (peer c i) c) 0 c))
    ∗ bigSep Finset.univ fun t : Fin 31 ⊕ Fin 32 => openTok (ER : Emb UT 𝕄) ((c : Thread nD τ), talkSem t))

/-- What reaches the region for the exchange. -/
def talkIn (c : Dev nD) : sProp 𝕄 :=
  iprop((∃ K, records (Xs m) (Ws m) K) ∗ dealt (F := F) c ∗ cred (tallyAt (barCell c) () 31) ∗ bigSep Finset.univ fun s : Fin 32 => recvCred c s)

/-- What the body gets of it. -/
def talkUse (c : Dev nD) : sProp 𝕄 := iprop((∃ K, Ctx (Xs m) (Ws m) K c) ∗ (talkHand (F := F) c ∗ copyVals c))

theorem talk_mem (t : Fin 31 ⊕ Fin 32) : (((c : Thread nD τ), talkSem t) : GSem nD τ sig) ∈ (barCells ∪ talkCells : Finset (GSem nD τ sig)) :=
  Finset.mem_union_right _ (Finset.mem_map_of_mem talkEmb (Finset.mem_univ (c, t)))

/-- A device opens its cells, giving their counters. -/
theorem open_cells (K : GSem nD τ sig → ℕ) :
    iprop(records (Xs m) (Ws m) K ∗ (bigSep Finset.univ fun t : Fin 31 ⊕ Fin 32 => openTok (ER : Emb UT 𝕄) ((c : Thread nD τ), talkSem t)) ∗ talkVals c)
      ⊢ (|={Set.univ}=> bigSep Finset.univ fun t : Fin 31 ⊕ Fin 32 => iprop(atPos (ER : Emb UT 𝕄) ((c : Thread nD τ), talkSem t) 0 ∅ 0
          ∗ reached ER ((c : Thread nD τ), talkSem t) 0) : sProp 𝕄) := by
  have h (t : Fin 31 ⊕ Fin 32) : iprop(records (Xs m) (Ws m) K ∗ (openTok (ER : Emb UT 𝕄) ((c : Thread nD τ), talkSem t) ∗ semVal ((c : Thread nD τ), talkSem t) 0))
      ⊢ (|={Set.univ}=> iprop(atPos (ER : Emb UT 𝕄) ((c : Thread nD τ), talkSem t) 0 ∅ 0 ∗ reached ER ((c : Thread nD τ), talkSem t) 0) : sProp 𝕄) := by
    iintro ⟨#HR, Ho, Hv⟩
    iapply (Rounds.cell_open ER (talkRd (Xs m) (Ws m)) (g := ((c : Thread nD τ), talkSem t)) (κ := K ((c : Thread nD τ), talkSem t)) (Set.mem_univ _))
    isplitr; · iapply (records_inv (Xs m) (Ws m) K (talk_mem c t)); iexact HR
    isplitl [Ho] <;> iassumption
  rw [← bigSep_sep']
  exact (bigSep_with_persistent fun t _ => h t).trans (BI.bigSep_fupd _ _)

theorem open_talk : iprop(talkIn m c ∗ Pipeline.ownSems0 osem c ∗ levAts L lv) ⊢ (|={Set.univ}=> talkUse m c : sProp 𝕄) := by
  have hsplit : (bigSep Finset.univ fun t : Fin 31 ⊕ Fin 32 => iprop(atPos (ER : Emb UT 𝕄) ((c : Thread nD τ), talkSem t) 0 ∅ 0
          ∗ reached ER ((c : Thread nD τ), talkSem t) 0))
      ⊢ (iprop(((bigSep Finset.univ fun i : Fin 31 => atPos (ER : Emb UT 𝕄) (sendCell c i) 0 ∅ 0)
            ∗ bigSep Finset.univ fun s : Fin 32 => atPos (ER : Emb UT 𝕄) (recvCell c s) 0 ∅ 0)
          ∗ ((bigSep Finset.univ fun i : Fin 31 => reached (ER : Emb UT 𝕄) (sendCell c i) 0)
            ∗ bigSep Finset.univ fun s : Fin 32 => reached (ER : Emb UT 𝕄) (recvCell c s) 0)) : sProp 𝕄) := by
    rw [bigSep_sep', bigSep_univ_sum, bigSep_univ_sum]
    exact .rfl
  rw [ownSems_eq]
  unfold talkIn dealt talkUse talkHand
  iintro ⟨⟨⟨%K, #HR⟩, ⟨Hb, ⟨Htb, Htt⟩, Hop⟩, Hcb, Hcr⟩, ⟨Hcv, Htv⟩, #Hlev⟩
  imod (open_cells m c K) $$ [Hop Htv] with Hat
  · isplitr; · iexact HR
    isplitl [Hop] <;> iassumption
  ihave Hat := hsplit $$ Hat
  icases Hat with ⟨⟨Has, Har⟩, #Hrs, #Hrr⟩
  imodintro
  isplitr
  · iexists K
    unfold Ctx
    isplitr; · iexact HR
    isplitr; · iexact Hrs
    isplitr; · iexact Hrr
    iexact Hlev
  isplitr [Hcv]
  · isplitl [Hb Hcb]
    · isplitl [Hcb] <;> iassumption
    isplitl [Htb]; · iexact Htb
    isplitl [Htt]; · iexact Htt
    isplitl [Has]; · iexact Has
    isplitl [Hcr] <;> iassumption
  · iexact Hcv

/-- The buffer the body addresses in memory: the weights. -/
abbrev held1 : Finset (DevRef τ sig) := {Proc.devRef .tc main_arg1}

/-- The other buffers in memory that are no window's. -/
abbrev others : Finset (DevRef τ sig) := Pipeline.ucRefs τ sig \ Pipeline.arrRefs (τ := τ) spec0

theorem held_weights (V : Valuation τ sig (Elt F)) (h : V main_arg1 = Ws m c) :
    (StableHlo.held (c.tc : Thread nD τ) held1 V : sProp 𝕄) = wWhole (Ws m) c := by
  unfold StableHlo.held
  rw [bigSep_singleton, h]

theorem talk_in : iprop(scratch c ∗ (∃ r, prngReg c r) ∗ StableHlo.held (c.tc : Thread nD τ) held1 (V1 m c) ∗ talkUse m c) ⊢ ((dat m c).Φ 0 : sProp 𝕄) := by
  rw [phi_first, held_weights m c _ (V1_w m c)]
  unfold talkUse before
  iintro ⟨Hs, Hp, Hw, HC, Hh⟩
  isplitl [HC]; · iexact HC
  isplitl [Hh]; · iexact Hh
  isplitl [Hs]; · iexact Hs
  isplitl [Hw] <;> iassumption

theorem talk_out : ((dat m c).Φ (Fin.last cfg0.N) : sProp 𝕄)
    ⊢ iprop(scratch c ∗ (∃ r, prngReg c r) ∗ StableHlo.held (c.tc : Thread nD τ) held1 (Vend m c) ∗ Pipeline.ownSems0 osem c ∗ semVal (barCell c) 0) := by
  rw [phi_last, held_weights m c _ ((Vend_of m c main_arg1 (by decide)).trans (V1_w m c)), ownSems_eq]
  unfold afterwards
  iintro ⟨Hb, Hv, Hs, Hw, Hp⟩
  isplitl [Hs]; · iexact Hs
  isplitl [Hp]; · iexact Hp
  isplitl [Hw]; · iexact Hw
  isplitl [Hv] <;> iassumption

theorem arr_start (w : Fin 3) : (dat m c).arrAt w 0 = V1 m c (Proc.devRef .tc (Pipeline.arrRef spec0 w)) := rfl

theorem arr_end : ∀ w : Fin 3, (dat m c).arrAt w cfg0.N = Vend m c (Proc.devRef .tc (Pipeline.arrRef spec0 w))
  | 0 => ((dat m c).arrAt_in (0 : Fin 3) rfl _).trans (Vend_of m c main_v5 (by decide)).symm
  | 1 => ((dat m c).arrAt_in (1 : Fin 3) rfl _).trans (Vend_of m c main_arg0 (by decide)).symm
  | 2 => by
    refine Eq.trans ?_ (Vend_out m c).symm
    rw [show cfg0.N = (t0_0 : Fin cfg0.N).val + 1 from rfl, (dat m c).arrAt_succ (2 : Fin 3) t0_0, flush0_2 t0_0, if_pos rfl]
    exact write_out t0_0 _ _

theorem others_kept : ∀ b ∈ others \ held1, Vend m c b = V1 m c b := by
  intro b hb
  refine Function.update_of_ne ?_ ..
  rintro rfl
  exact absurd hb (by decide)

theorem oweBars_cell (g : GSem nD τ sig) (u : Unit) : ∀ l : List (Fin 31), 0 < oweBars c l g u → ∃ i : Fin 31, g = barCell (peer c i)
  | [], h => absurd h (Nat.lt_irrefl 0)
  | i :: l, h => by
    by_cases e : g = barCell (peer c i)
    · exact ⟨i, e⟩
    · refine oweBars_cell g u l (Nat.lt_of_lt_of_eq h ?_)
      show (oweBars c l + tallyAt (barCell (peer c i)) () 1) g u = _
      rw [Pi.add_apply, tallyAt_ne_cell e, add_zero]

/-- What a device owes during the region lies above the cells of the windows' copies. -/
theorem owed_high (t : Fin (cfg0.N + 1)) (g : GSem nD τ sig) (u : Unit) (h : 0 < (dat m c).owed t g u) : u ∈ L g ∧ 0 < lv g u := by
  have ho : 0 < O₀ c g u := by
    have e : (dat m c).owed t = if t.val = 0 then O₀ c else 0 := rfl
    by_cases ht : t.val = 0
    · rwa [e, if_pos ht] at h
    · rw [e, if_neg ht] at h; exact absurd h (Nat.lt_irrefl 0)
  have hs : O₀ c g u = oweTiles c tileOrder g u + oweBars c dists g u := rfl
  by_cases hb : 0 < oweBars c dists g u
  · obtain ⟨i, rfl⟩ := oweBars_cell c g u dists hb
    exact ⟨by rw [L_tc]; exact Finset.mem_singleton_self _, Nat.one_pos⟩
  · obtain ⟨i, -, rfl⟩ := oweTiles_cell c g u tileOrder (by omega)
    refine ⟨by rw [L_tc]; exact Finset.mem_singleton_self _, ?_⟩
    show 0 < lvOf (useOf _)
    rw [use_recv]
    exact Nat.two_pos

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

set_option backward.isDefEq.respectTransparency.types false in
/-- The kernel's region: entered with the host's values and the exchange's rights, left with the result in place. -/
def region : Pipeline.RegionSeg (pcfgs (F := F)) adm (pdats m) () defs₀ Variants.none L lv 0 :=
  Pipeline.RegionSeg.ofTalk (pcfgs (F := F)) adm (pdats m) () defs₀ Variants.none L lv 0 osem osem_facts held1 others (by decide) kit rfl
    (fun c => (body m c).loose) (fun _ => 0) O₀ (fun c => (owed_first m c).trans (zero_add _).symm) (owed_last m) (fun _ => rfl) (fun c w => share_full m c w)
    (V1 m) (Vend m) (others_kept m) (talkIn m) (fun c => semVal (barCell c) 0) (talkUse m) (fun c => semVal (barCell c) 0)
    (open_talk m) (talk_in m) (talk_out m) (fun c => by iintro H; imodintro; iexact H) (fun _ => 0)
    ⟨fun c w s => by rw [L_tc]; exact Finset.mem_singleton_self _, fun c w s => by fin_cases w <;> fin_cases s <;> exact Nat.le_of_eq rfl, fun c t g i h => owed_high m c t g i h⟩
    (fun _ => iprop(emp)) (fun c w => arr_start m c w) (fun c w => arr_end m c w)

end Cert.KernelIdeal.Talk

end
-- ==== Proof.Deal.lean ====
/- What the launch gives: the credit the devices' debts make, dealt to the cells they are owed to, and the
   rights of the exchange, each dealt to the device that uses it. -/
module

public import proofs.«01_k».proof.Proof.Region
public import Idealize.ShloMosaic.Lib.Quiescent

@[expose] public section

set_option synthInstance.maxSize 4096

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Credit -/

theorem back_unique (c d : Dev nD) (i : Fin 31) : peer d i = c ↔ d = back c i :=
  ⟨fun h => by rw [← h, back_peer], fun h => by rw [h, peer_back]⟩

theorem barCell_inj {c d : Dev nD} (h : barCell c = barCell d) : c = d := congrArg (fun g : GSem nD τ sig => g.1.1) h
theorem recvCell_inj {c d : Dev nD} {s t : Fin 32} (h : recvCell c s = recvCell d t) : c = d ∧ s = t :=
  ⟨congrArg (fun g : GSem nD τ sig => g.1.1) h, by
    have e := congrArg (fun g : GSem nD τ sig => useOf g.2) h
    simp only [use_recv] at e
    exact Use.recv.inj e⟩
theorem bar_ne_recv (c d : Dev nD) (s : Fin 32) : barCell c ≠ recvCell d s := fun h => by
  have e := congrArg (fun g : GSem nD τ sig => useOf g.2) h
  simp only [use_recv, use_bar] at e
  exact Use.noConfusion e

/-- Among all devices, each distance in a list makes one unit owed on a barrier cell. -/
theorem sum_bars (c : Dev nD) : ∀ l : List (Fin 31), (∑ d : Dev nD, oweBars d l (barCell c) ()) = l.length
  | [] => Finset.sum_const_zero
  | i :: l => by
    have h (d : Dev nD) : oweBars d (i :: l) (barCell c) () = oweBars d l (barCell c) () + if d = back c i then 1 else 0 := by
      show (oweBars d l + tallyAt (barCell (peer d i)) () 1) (barCell c) () = _
      rw [Pi.add_apply, Finsupp.add_apply, tallyAt_apply]
      congr 1
      by_cases e : d = back c i
      · rw [if_pos e, if_pos ⟨by rw [(back_unique c d i).mpr e], rfl⟩]
      · rw [if_neg e, if_neg fun h => e ((back_unique c d i).mp (barCell_inj h.1).symm)]
    rw [Finset.sum_congr rfl fun d _ => h d, Finset.sum_add_distrib, sum_bars c l, Finset.sum_ite_eq' Finset.univ (back c i) fun _ => 1,
      if_pos (Finset.mem_univ _)]
    rfl

/-- No credit of a barrier cell comes from tiles. -/
theorem tiles_bar (c d : Dev nD) : ∀ l : List (Fin 31), oweTiles d l (barCell c) () = 0
  | [] => rfl
  | i :: l => by
    show (oweTiles d l + tallyAt (recvCell (peer d i) d) () N) (barCell c) () = 0
    rw [Pi.add_apply, Finsupp.add_apply, tiles_bar c d l, tallyAt_ne_cell (bar_ne_recv _ _ _)]
    rfl

/-- No credit of a receive cell comes from signals. -/
theorem bars_recv (c d : Dev nD) (s : Fin 32) : ∀ l : List (Fin 31), oweBars d l (recvCell c s) () = 0
  | [] => rfl
  | i :: l => by
    show (oweBars d l + tallyAt (barCell (peer d i)) () 1) (recvCell c s) () = 0
    rw [Pi.add_apply, Finsupp.add_apply, bars_recv c d s l, tallyAt_ne_cell fun h => bar_ne_recv _ _ _ h.symm]
    rfl

/-- The credit of a receive cell comes from the device it is for, once for each time its distance is listed. -/
theorem tiles_recv (s d : Dev nD) (j : Fin 31) : ∀ l : List (Fin 31),
    oweTiles d l (recvCell (peer s j) s) () = if d = s then l.count j * N else 0
  | [] => by
    rw [List.count_nil, Nat.zero_mul, ite_self]
    rfl
  | i :: l => by
    show (oweTiles d l + tallyAt (recvCell (peer d i) d) () N) (recvCell (peer s j) s) () = _
    rw [Pi.add_apply, Finsupp.add_apply, tiles_recv s d j l, tallyAt_apply]
    by_cases e : d = s
    · subst e
      by_cases hij : i = j
      · subst hij
        rw [if_pos rfl, if_pos rfl, if_pos ⟨rfl, rfl⟩, List.count_cons_self, Nat.succ_mul]
      · rw [if_pos rfl, if_pos rfl, if_neg fun h => hij (peer_inj d (recvCell_inj h.1).1).symm, List.count_cons_of_ne hij, Nat.add_zero]
    · rw [if_neg e, if_neg e, if_neg fun h => e (recvCell_inj h.1).2.symm]

theorem count_order : ∀ j : Fin 31, tileOrder.count j = 1 := by decide

theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  have h (d : Dev nD) : O₀ d (barCell c) () = oweBars d dists (barCell c) () := by
    show (oweTiles d tileOrder + oweBars d dists) (barCell c) () = _
    rw [Pi.add_apply, Finsupp.add_apply, tiles_bar, Nat.zero_add]
  rw [Pipeline.launchCredit_owing, Finsupp.single_eq_same, Finset.sum_congr rfl fun d _ => h d, sum_bars]
  rfl

theorem launch_recv (c : Dev nD) (s : Fin 32) (hs : s ≠ c) :
    tallyOn (recvCell c s) (launchCredit (Pipeline.owing O₀) 0 (recvCell c s)) = (tallyAt (recvCell c s) () N : CellTallies nD τ sig Unit) := by
  unfold tallyAt; refine congrArg _ (Finsupp.ext fun u => ?_); cases u
  have hc : c ∈ (Finset.univ.erase s : Finset (Dev nD)) := Finset.mem_erase.mpr ⟨fun e => hs e.symm, Finset.mem_univ c⟩
  rw [peers s] at hc
  obtain ⟨j, -, rfl⟩ := Finset.mem_map.mp hc
  have h (d : Dev nD) : O₀ d (recvCell (peerEmb s j) s) () = if d = s then N else 0 := by
    show (oweTiles d tileOrder + oweBars d dists) (recvCell (peer s j) s) () = _
    rw [Pi.add_apply, Finsupp.add_apply, bars_recv, Nat.add_zero, tiles_recv, count_order, Nat.one_mul]
  rw [Pipeline.launchCredit_owing, Finsupp.single_eq_same, Finset.sum_congr rfl fun d _ => h d, Finset.sum_ite_eq' Finset.univ s fun _ => N,
    if_pos (Finset.mem_univ _)]

def recvEmb : Fin 32 ↪ SemLoc sig := ⟨fun s => talkSem (.inr s), fun _ _ h => Sum.inr.inj (talkSem_inj h)⟩

theorem recv_sems : (Finset.univ.map recvEmb : Finset (SemLoc sig)) ⊆ Finset.univ.erase (.reg barS) := by
  intro sm h
  obtain ⟨s, -, rfl⟩ := Finset.mem_map.mp h
  refine Finset.mem_erase.mpr ⟨fun e => ?_, Finset.mem_univ _⟩
  exact Use.noConfusion ((use_recv s).symm.trans (congrArg useOf e))

/-- A device's credit at launch: for the others' signals, and for each tile that is to arrive. -/
theorem creds (c : Dev nD) :
    (Pipeline.launchCred O₀ c : sProp 𝕄) ⊢ iprop(cred (tallyAt (barCell c) () 31) ∗ bigSep Finset.univ fun s : Fin 32 => recvCred c s) := by
  unfold Pipeline.launchCred
  rw [bigSep_univ_at _ (SemLoc.reg barS), launch_bar]
  refine sep_mono_right ((BI.bigSep_subset recv_sems).trans ?_)
  rw [bigSep_map]
  have h (s : Fin 32) : (cred (tallyOn ((c : Thread nD τ), recvEmb s) (launchCredit (Pipeline.owing O₀) 0 ((c : Thread nD τ), recvEmb s))) : sProp 𝕄)
      ⊢ recvCred c s := by
    unfold recvCred
    by_cases e : s = c
    · rw [if_pos e]
      iintro -
      iempintro
    · rw [if_neg e]
      exact Entails.of_eq (congrArg cred (launch_recv c s e))
  exact bigSep_mono fun s _ => h s

/-! ## The rights of the exchange -/

/-- The cell of a duty a device pays: the barrier of the device at a distance, its own send cell, that device's
    receive cell. -/
def dutyCell (c : Dev nD) : Fin 31 ⊕ (Fin 31 ⊕ Fin 31) → GSem nD τ sig
  | .inl i => barCell (peer c i)
  | .inr (.inl i) => sendCell c i
  | .inr (.inr i) => recvCell (peer c i) c

theorem dutyCell_inj (c : Dev nD) : Function.Injective (dutyCell c) := by
  intro a b h
  have hu := congrArg (fun g : GSem nD τ sig => useOf g.2) h
  have hd := congrArg (fun g : GSem nD τ sig => g.1.1) h
  rcases a with i | i | i <;> rcases b with j | j | j <;> simp only [dutyCell, use_bar, use_send, use_recv] at hu hd
  · rw [peer_inj c hd]
  · exact Use.noConfusion hu
  · exact Use.noConfusion hu
  · exact Use.noConfusion hu
  · rw [Use.send.inj hu]
  · exact Use.noConfusion hu
  · exact Use.noConfusion hu
  · exact Use.noConfusion hu
  · rw [peer_inj c hd]

/-- All duties, each under the device that pays it. -/
def dutyEmb : Dev nD × (Fin 31 ⊕ (Fin 31 ⊕ Fin 31)) ↪ GSem nD τ sig × ℕ × Dev nD :=
  ⟨fun x => (dutyCell x.1 x.2, 0, x.1), fun x y h => by
    have hc : x.1 = y.1 := congrArg (fun t : GSem nD τ sig × ℕ × Dev nD => t.2.2) h
    have hg : dutyCell x.1 x.2 = dutyCell y.1 y.2 := congrArg Prod.fst h
    refine Prod.ext hc (dutyCell_inj y.1 ?_)
    rwa [hc] at hg⟩

def talkToks : Finset (GSem nD τ sig × ℕ × Dev nD) := Finset.univ.map dutyEmb

theorem toks_eq : bigSep talkToks (fun x => (dutyTok ER x.1 x.2.1 x.2.2 : sProp 𝕄))
    = bigSep Finset.univ fun c : Dev nD => iprop((bigSep Finset.univ fun i : Fin 31 => dutyTok ER (barCell (peer c i)) 0 c)
        ∗ bigSep Finset.univ fun i : Fin 31 => iprop(dutyTok ER (sendCell c i) 0 c ∗ dutyTok ER (recvCell (peer c i) c) 0 c)) := by
  unfold talkToks
  rw [bigSep_map, bigSep_univ_prod]
  refine bigSep_congr fun c _ => ?_
  rw [bigSep_univ_sum, bigSep_univ_sum, bigSep_sep']
  rfl

theorem cells_disjoint : Disjoint (barCells : Finset (GSem nD τ sig)) talkCells := by
  rw [Finset.disjoint_left]
  rintro g h₁ h₂
  obtain ⟨c, -, rfl⟩ := Finset.mem_map.mp h₁
  obtain ⟨⟨d, t⟩, -, h⟩ := Finset.mem_map.mp h₂
  have e : useOf (talkSem t) = .bar := congrArg (fun g : GSem nD τ sig => useOf g.2) h
  rw [useOf_talkSem] at e
  cases t <;> exact Use.noConfusion e

variable (X : Dev nD → Vec F S128x4096 .f32) (W : Dev nD → S4096x8192.Idx → F .f32)

/-- From the barriers' counters and the launch element: the records of all cells, and every device's rights. -/
theorem deal : iprop((bigSep Finset.univ fun c : Dev nD => semVal (barCell c) 0) ∗ BI.own ((ER : Emb UT 𝕄) (launchOf barCells talkCells talkToks)))
    ⊢ (|={Set.univ}=> iprop((∃ K, records X W K) ∗ bigSep Finset.univ fun c : Dev nD => dealt c) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hop : bigSep talkCells (fun g => (openTok ER g : sProp 𝕄))
      ⊢ bigSep Finset.univ (fun c : Dev nD => bigSep Finset.univ fun t : Fin 31 ⊕ Fin 32 => openTok ER ((c : Thread nD τ), talkSem t)) :=
    Entails.of_eq (by rw [bigSep_map, bigSep_univ_prod]; rfl)
  iintro ⟨Hv, Hu⟩
  imod (Rounds.fund_launch ER (talkRd X W) cells_disjoint (fun g _ h => h) talkToks) $$ [Hv Hu] with ⟨%κ, -, #Hinv, #Hr, Hat, Hopen, Htok⟩
  · isplitl [Hv]
    · iapply hv $$ Hv
    · iexact Hu
  imodintro
  isplitr
  · iexists κ
    unfold records
    isplitr; · iexact Hinv
    iexact Hr
  unfold dealt
  rw [bigSep_sep', bigSep_sep']
  isplitl [Hat]; · iapply hat $$ Hat
  isplitl [Htok]; · iapply (Entails.of_eq (toks_eq (F := F))) $$ Htok
  iapply hop $$ Hopen

end Cert.KernelIdeal.Talk

end
-- ==== Proof.Run.lean ====
/- The run of the kernel's program on all devices: it ends, with each device's block of the result computed
   from what the devices held at launch, the arguments as they were and every semaphore at zero. -/
module

public import proofs.«01_k».proof.Proof.Deal

@[expose] public section

set_option synthInstance.maxSize 4096

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-- What a device keeps beside its buffers until the region. -/
def beside (c : Dev nD) : sProp 𝕄 := iprop((∃ r, prngReg c r) ∗ talkIn m c ∗ ∃ Wd, owes (c : Thread nD τ) (O₀ c) Wd)

/-- What a device holds at launch, once the rights are dealt. -/
abbrev startsWith (c : Dev nD) : sProp 𝕄 := iprop(StableHlo.held (c : Thread nD τ) (Pipeline.ucRefs τ sig) (V0 m c) ∗ beside m c)
/-- What it holds at the end. -/
abbrev endsWith (c : Dev nD) : sProp 𝕄 := iprop(StableHlo.held (c : Thread nD τ) (Pipeline.ucRefs τ sig) (Vend m c) ∗ semVal (barCell c) 0)

theorem held_arrays (c : Dev nD) (V : Valuation τ sig (Elt F)) : (StableHlo.held (c : Thread nD τ) (Pipeline.ucRefs τ sig) V : sProp 𝕄)
    = iprop(StableHlo.held (c : Thread nD τ) (Pipeline.arrRefs (τ := τ) spec0) V ∗ StableHlo.held (c : Thread nD τ) others V) :=
  StableHlo.held_sub_split (c : Thread nD τ) (by decide) V

set_option backward.isDefEq.respectTransparency.types false in
theorem region_pre (c : Dev nD) : iprop(StableHlo.held (c : Thread nD τ) (Pipeline.ucRefs τ sig) (V1 m c) ∗ beside m c) ⊢ ((region m).pre c : sProp 𝕄) := by
  show _ ⊢ iprop(StableHlo.held (c : Thread nD τ) (Pipeline.arrRefs (τ := τ) spec0) (V1 m c) ∗ (∃ r, prngReg c r)
    ∗ (StableHlo.held (c : Thread nD τ) others (V1 m c) ∗ emp) ∗ talkIn m c ∗ ∃ Wd, owes (c : Thread nD τ) (0 + O₀ c) Wd)
  rw [held_arrays, zero_add]
  unfold beside
  iintro ⟨⟨Ha, Ho⟩, Hp, Ht, HO⟩
  isplitl [Ha]; · iexact Ha
  isplitl [Hp]; · iexact Hp
  isplitl [Ho]
  · isplitl [Ho]; · iexact Ho
    iempintro
  isplitl [Ht] <;> iassumption

set_option backward.isDefEq.respectTransparency.types false in
theorem region_post (c : Dev nD) : (region m).post c
    ⊢ (iprop(endsWith m c ∗ ∃ Wd, owes (c : Thread nD τ) (0 : CellTallies nD τ sig Unit) Wd) : sProp 𝕄) := by
  show iprop(StableHlo.held (c : Thread nD τ) (Pipeline.arrRefs (τ := τ) spec0) (Vend m c) ∗ (∃ r, prngReg c r)
    ∗ (StableHlo.held (c : Thread nD τ) others (Vend m c) ∗ emp) ∗ semVal (barCell c) 0 ∗ ∃ Wd, owes (c : Thread nD τ) (0 : CellTallies nD τ sig Unit) Wd) ⊢ _
  rw [show endsWith m c = iprop(StableHlo.held (c : Thread nD τ) (Pipeline.ucRefs τ sig) (Vend m c) ∗ semVal (barCell c) 0) from rfl, held_arrays]
  iintro ⟨Ha, -, ⟨Ho, -⟩, Hb, HO⟩
  isplitr [HO]
  · isplitr [Hb]
    · isplitl [Ha] <;> iassumption
    · iexact Hb
  · iexact HO

/-- The launch element: the staging cells' rounds, the exchange's, no local copy. -/
def u₀ : UU :=
  (initOf (Pipeline.cells (Pipeline.pin (pcfgs (F := F)) adm) cellOf_inj) (Pipeline.launchToks (Pipeline.pin (pcfgs (F := F)) adm) cellOf_inj),
    (launchOf barCells talkCells talkToks, (1 : Counters)))

/-- The exchange's part of it, kept by device 0 until it is dealt. -/
def kept (c : Dev nD) : sProp 𝕄 := if c = 0 then BI.own ((ER : Emb UT 𝕄) (launchOf barCells talkCells talkToks)) else iprop(emp)

theorem kept_all : (bigSep Finset.univ fun c : Dev nD => kept c) = (BI.own ((ER : Emb UT 𝕄) (launchOf barCells talkCells talkToks)) : sProp 𝕄) := by
  have h : bigSep (Finset.univ.erase (0 : Dev nD)) (fun c => (kept c : sProp 𝕄)) = bigSep (Finset.univ.erase (0 : Dev nD)) fun _ => (BI.emp : sProp 𝕄) :=
    bigSep_congr fun c hc => by unfold kept; rw [if_neg (Finset.ne_of_mem_erase hc)]; rfl
  rw [bigSep_univ_at _ (0 : Dev nD), h, BI.bigSep_emp_const]
  unfold kept; rw [if_pos rfl]
  exact BI.equiv_iff.mp sep_emp

theorem launch_element : (ownU (u₀ (F := F)) : sProp 𝕄)
    ⊢ |={Set.univ}=> iprop(BI.own ((EP : Emb UP 𝕄) (initOf (Pipeline.cells (Pipeline.pin (pcfgs (F := F)) adm) cellOf_inj)
        (Pipeline.launchToks (Pipeline.pin (pcfgs (F := F)) adm) cellOf_inj))) ∗ bigSep Finset.univ fun c : Dev nD => kept c) := by
  rw [kept_all]
  unfold u₀
  iintro Hu
  ihave H := (ownU_pair _ _) $$ Hu
  icases H with ⟨HP, HX⟩
  ihave H' := (own_pair_emb (embR (nD := nD) (sig := sig) (Ix := Unit) (Val := Elt F) (Name := ℕ) (Lvl := ℕ) (A := UP) (B := UT × Counters)) _ _) $$ HX
  icases H' with ⟨HX, -⟩
  imodintro
  isplitl [HP]; · iexact HP
  iexact HX

theorem barrier_sem (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- What a device has at launch that is not yet the exchange's. -/
def bundle (c : Dev nD) : sProp 𝕄 :=
  iprop(StableHlo.held (c : Thread nD τ) (Pipeline.ucRefs τ sig) (V0 m c) ∗ (∃ r, prngReg c r)
    ∗ (cred (tallyAt (barCell c) () 31) ∗ bigSep Finset.univ fun s : Fin 32 => recvCred c s) ∗ owes (c : Thread nD τ) (O₀ c) ∅)

/-- Every device's holdings at launch, with the exchange's rights dealt. -/
theorem launch : iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ kept c)) ∗ levAts L lv)
      ⊢ (|={Set.univ}=> bigSep Finset.univ (startsWith m) : sProp 𝕄) := by
  have hone (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ kept c)
      ⊢ (iprop(bundle m c ∗ (semVal (barCell c) 0 ∗ kept c)) : sProp 𝕄) := by
    unfold bundle
    rw [barrier_sem, ← Pipeline.unscopedBufs_held (Ix := Unit) (Name := ℕ) (U := UU) (Lvl := ℕ) c (V0 m c)]
    iintro ⟨Hh, Hs, HO, Hcr, Hp, HG⟩
    ihave Hc := (creds (F := F) c) $$ Hcr
    isplitl [Hh HO Hc Hp]
    · isplitl [Hh]; · iexact Hh
      isplitl [Hp]; · iexists (ρ c); iexact Hp
      isplitl [Hc] <;> iassumption
    isplitl [Hs] <;> iassumption
  have hstart (c : Dev nD) : iprop((∃ K, records (Xs m) (Ws m) K) ∗ (dealt c ∗ bundle m c)) ⊢ startsWith m c := by
    unfold bundle startsWith beside talkIn
    iintro ⟨#HR, Hd, Hh, Hp, ⟨Hb, Hr⟩, HO⟩
    isplitl [Hh]; · iexact Hh
    isplitl [Hp]; · iexact Hp
    isplitr [HO]
    · isplitr; · iexact HR
      isplitl [Hd]; · iexact Hd
      isplitl [Hb] <;> iassumption
    · iexists ∅; iexact HO
  have hsplit : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ kept c))
      ⊢ (iprop((bigSep Finset.univ fun c : Dev nD => bundle m c)
          ∗ (bigSep Finset.univ fun c : Dev nD => semVal (barCell c) 0) ∗ bigSep Finset.univ fun c : Dev nD => kept c) : sProp 𝕄) := by
    rw [← bigSep_sep', ← bigSep_sep']
    exact bigSep_mono fun c _ => hone c
  have hjoin : iprop((∃ K, records (Xs m) (Ws m) K) ∗ ((bigSep Finset.univ fun c : Dev nD => dealt c) ∗ bigSep Finset.univ fun c : Dev nD => bundle m c))
      ⊢ (bigSep Finset.univ (startsWith m) : sProp 𝕄) := by
    rw [← bigSep_sep']
    exact bigSep_with_persistent fun c _ => hstart c
  rw [kept_all] at hsplit
  iintro ⟨H, -⟩
  ihave H := hsplit $$ H
  icases H with ⟨HB, Hv, HG⟩
  imod (deal (Xs m) (Ws m)) $$ [Hv HG] with ⟨HR, Hd⟩
  · isplitl [Hv] <;> iassumption
  imodintro
  iapply hjoin
  isplitl [HR]; · iexact HR
  isplitl [Hd] <;> iassumption

theorem only_barrier : ∀ sm : SemLoc sig, sm.isScoped .tc = false → sm = .reg barS := by decide

theorem end_x (c : Dev nD) : Vend m c main_arg0 = m ((c : Thread nD τ).loc main_arg0) := (Vend_of m c main_arg0 (by decide)).trans (V1_of m c main_arg0 (by decide))
theorem end_w (c : Dev nD) : Vend m c main_arg1 = m ((c : Thread nD τ).loc main_arg1) := (Vend_of m c main_arg1 (by decide)).trans (V1_of m c main_arg1 (by decide))

/-- The program as segments: the host's operations, then the region. -/
abbrev items : (c : Dev nD) → List (Pipeline.Seg (pcfgs (F := F)) adm (pdats m) () defs₀ Variants.none L lv) :=
  segs m Variants.none L lv (fun _ => beside m) () (pdats m) (region m)

theorem mem_uc (r : Ref sig .tc) (h : (Proc.devRef .tc r : DevRef τ sig) ∈ Pipeline.ucRefs τ sig) (c : Dev nD) (s' : Phys nD τ sig (Elt F))
    (hr : ∀ b ∈ Pipeline.ucRefs τ sig, s'.mem.mem (c, b) = Vend m c b) : s'.mem.mem ((c : Thread nD τ).loc r) = Vend m c r := hr _ h

set_option backward.isDefEq.respectTransparency.types false in
/-- The run: from any memory with all semaphores at zero, every fair execution ends, with the result's blocks computed, the
    arguments as launched, and all semaphores at zero. -/
theorem run_main : θ_run defs (onTc (τ := τ) (main (F := F))) ⟨m, fun _ => 0, ρ⟩ (fun r => (∀ c : Dev nD,
      r.2.mem ((c : Thread nD τ).loc main_v6) = resultOf (Xs m) (Ws m) c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) := by
  refine Pipeline.θ_run_regions_kit_dev_sems (pcfgs (F := F)) adm (pdats m) () cellOf_inj EP defs₀ Variants.none L lv m ρ main (items m)
    (fun c Q => by
      rewrite [main_chain c, Pipeline.Seg.run_eq_chain,
        show (items m c).map Pipeline.Seg.prog = [StableHlo.seq (hostOps0 c), Prog.lift (.customCall (Pipeline.entry 0) ())] from rfl]
      dsimp (config := { failIfUnchanged := false }) only
      exact .rfl)
    (fun c => by simp only [items, segs, Pipeline.Seg.pipes_host, Pipeline.Seg.pipes_region, Pipeline.Seg.pipes_nil]; decide)
    O₀ L_of_ne (fun c => kept c) u₀ launch_element
    (T₀ := startsWith m) (Tₙ := endsWith m)
    (hch := fun c => ⟨.rfl, region_pre m c, region_post m c⟩)
    (hinit := launch m ρ)
    (QY := fun c s => (s.mem ((c : Thread nD τ).loc main_v6) = resultOf (Xs m) (Ws m) c
      ∧ s.mem ((c : Thread nD τ).loc main_arg0) = m ((c : Thread nD τ).loc main_arg0)
      ∧ s.mem ((c : Thread nD τ).loc main_arg1) = m ((c : Thread nD τ).loc main_arg1)) ∧ s.sem (barCell c) = 0)
    (hfin := fun c s' => ?_)
    (hQ := fun s h hs => ⟨fun c => (h c).1, sem_eq_zero hs fun c sm hsm => by
      obtain rfl := only_barrier sm hsm
      exact (h c).2⟩)
  unfold endsWith StableHlo.held
  iintro ⟨⟨Hh, Hb⟩, HSI⟩
  icombine HSI Hb gives %hb
  ihave Hr := (pointsTo_read_all (Pipeline.ucRefs τ sig) (fun b => ((c : Thread nD τ).1, b)) (Vend m c) s') $$ [Hh HSI]
  · isplitl [Hh] <;> iassumption
  icases Hr with ⟨%h, HSI⟩
  imodintro
  isplitr
  · ipureintro
    exact ⟨⟨(mem_uc m main_v6 (by decide) c s' h).trans (Vend_out m c), (mem_uc m main_arg0 (by decide) c s' h).trans (end_x m c),
      (mem_uc m main_arg1 (by decide) c s' h).trans (end_w m c)⟩, by simpa using hb⟩
  · iexact HSI

end Cert.KernelIdeal.Talk

end
-- ==== Proof.Values.lean ====
/- What the devices compute over the extended reals: each device's block of the result is that device's block
   of columns of the reference's result. A format change is the identity there and every element is one sum
   of 4096 products on both sides, so the two differ only in how the cube inside the activation is bracketed. -/
module

public import proofs.«01_k».proof.Proof.Parts
public import proofs.«01_k».proof.Proof.Gen.ReferenceIdeal.Run
public import Idealize.ShloMosaic.Lib.MatmulPlain
public import Idealize.ShloMosaic.Lib.StackMember
public import Idealize.ShloMosaic.Lib.Layout
public import Idealize.ShloMosaic.PureOps.Ideal.Laws

@[expose] public section

noncomputable section

namespace Cert.KernelIdeal.Talk

open Idealize.ShloMosaic Idealize.SL.Sem Cert.KernelIdeal Cert.KernelIdeal.Gen
open Idealize.ShloMosaic.ValueIdx

/-- The activation as the reference brackets it, at one element. -/
def act (y : EReal) : EReal :=
  Ideal.ofBits .f32 0x3F000000#32 * y * (Ideal.ofBits .f32 0x3F800000#32
    + Ideal.tanh (Ideal.ofBits .f32 0x3F4C422A#32 * (y + Ideal.ofBits .f32 0x3D372713#32 * (y * y * y))))

/-- The kernel's activation of a tile is `act` at every element. -/
theorem geluTile_apply (y : FVec Ideal S128x256 .f32) (j : S128x256.Idx) : geluTile y j = act (y j) := by
  have h : geluTile y j = Ideal.ofBits .f32 0x3F000000#32 * y j * (Ideal.ofBits .f32 0x3F800000#32
    + Ideal.tanh (Ideal.ofBits .f32 0x3F4C422A#32 * (y j + Ideal.ofBits .f32 0x3D372713#32 * y j * y j * y j))) := rfl
  rw [h, act, mul_assoc (Ideal.ofBits .f32 0x3D372713#32 * y j), mul_assoc (Ideal.ofBits .f32 0x3D372713#32), mul_assoc (y j) (y j)]

/-- An element of the tile a sender with rows `X` and weights `W` computes for device `d`. -/
theorem tileOf_apply (d : Dev nD) (X : Vec Ideal S128x4096 .f32) (W : S4096x8192.Idx → Ideal .f32) (a : Fin 128) (b : Fin 256) :
    tileOf d X W (ix2 a b) = act (∑ k : Fin 4096, X (ix2 a k) * W (colIdx d (ix2 k b))) := by
  unfold tileOf
  rw [geluTile_apply]
  congr 1
  have hx : rowsB X = X := by
    unfold rowsB
    rw [shapeCast_self]
    rfl
  rw [hx]
  refine (Ideal.matmul_plain_apply (M := 128) (K := 4096) (N := 256) none X _ _ a b).trans ?_
  have hz : (constant (F := Ideal) S128x256 .f32 0x00000000#32) (ix2 a b) = (0 : EReal) := Ideal.ofBits_zero_f32
  rw [hz, zero_add]
  rfl

/-- The reference's result of whole arrays `x` and `w`. -/
def refOf (x : FVec Ideal ⟨2, ![4096, 4096]⟩ .f32) (w : FVec Ideal ⟨2, ![4096, 8192]⟩ .f32) : FVec Ideal ⟨2, ![4096, 8192]⟩ .f32 :=
  fun i => act (∑ k : Fin 4096, x (ix2 (i 0) k) * w (ix2 k (i 1)))

end Cert.KernelIdeal.Talk

namespace Cert.ReferenceIdeal.Value

open Idealize.ShloMosaic Idealize.ShloMosaic.TcCoe Idealize.SL.Sem Cert.ReferenceIdeal Cert.ReferenceIdeal.Gen
open Idealize.ShloMosaic.ValueIdx

/-- An element of the reference's product is the sum over the row and the column it stands in. -/
theorem dot_apply (x : FVec Ideal S4096x4096 .f32) (w : FVec Ideal S4096x8192 .f32) (i : S4096x8192.Idx) :
    Host.dotGeneral dot_S4096x4096_S4096x8192_S4096x8192_1_0_0_1_n_n none x w i
      = ∑ k : Fin 4096, x (ix2 (i 0) k) * w (ix2 k (i 1)) :=
  (congrArg _ (eq_ix2 i)).trans (StackMember.dotGeneral_plain_apply (m := 4096) (k := 4096) (n := 8192) none x w (i 0) (i 1))

/-- The reference's activation of a whole array is `act` at every element. -/
theorem gelu_apply (Y : FVec Ideal S4096x8192 .f32) (i : S4096x8192.Idx) :
    mulf (mulf (broadcastInDim S4096x8192 ![] bcast_S_S4096x8192 (constant S_ .f32 0x3F000000#32)) Y)
      (addf (broadcastInDim S4096x8192 ![] bcast_S_S4096x8192 (constant S_ .f32 0x3F800000#32))
        (Host.tanh (mulf (broadcastInDim S4096x8192 ![] bcast_S_S4096x8192 (constant S_ .f32 0x3F4C422A#32))
          (addf Y (mulf (broadcastInDim S4096x8192 ![] bcast_S_S4096x8192 (constant S_ .f32 0x3D372713#32)) (mulf (mulf Y Y) Y)))))) i
      = Cert.KernelIdeal.Talk.act (Y i) := rfl

/-- The reference's run, its result read element by element. -/
theorem run_refOf (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13)
        = Cert.KernelIdeal.Talk.refOf (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (funext fun i =>
      (gelu_apply _ i).trans (congrArg Cert.KernelIdeal.Talk.act (dot_apply _ _ i))), (h c).2⟩) (run m ρ)

end Cert.ReferenceIdeal.Value

namespace Cert.KernelIdeal.Talk

open Idealize.ShloMosaic Idealize.SL.Sem Cert.KernelIdeal Cert.KernelIdeal.Gen
open Idealize.ShloMosaic.ValueIdx

/-- When the devices hold the 32 blocks of rows of `x` and each the whole of `w`, what device `c` ends with is
    block `c` of the columns of the reference's result. -/
theorem resultOf_block (X : Dev nD → Vec Ideal S128x4096 .f32) (W : Dev nD → S4096x8192.Idx → Ideal .f32)
    (x : FVec Ideal ⟨2, ![4096, 4096]⟩ .f32) (w : FVec Ideal ⟨2, ![4096, 8192]⟩ .f32)
    (hX : ∀ s, X s = Layout.block ⟨2, ![128, 4096]⟩ ⟨2, ![4096, 4096]⟩ 0 32 s x) (hW : ∀ s, W s = w) (c : Dev nD) :
    resultOf X W c = Layout.block ⟨2, ![4096, 256]⟩ ⟨2, ![4096, 8192]⟩ 1 32 c (refOf x w) := by
  funext i
  rw [Layout.block_apply]
  show tileOf c (X (sender i)) (W (sender i)) (inTile i) = _
  rw [hX, hW]
  refine ((congrArg _ (eq_ix2 (inTile i))).trans (tileOf_apply c _ _ (inTile i 0) (inTile i 1))).trans ?_
  refine congrArg act (Finset.sum_congr rfl fun k _ => ?_)
  have ex : ∀ h : Layout.Tiles ⟨2, ![128, 4096]⟩ ⟨2, ![4096, 4096]⟩ 0 32,
      h.idx (sender i) (ix2 (inTile i 0) k) = ix2 (n0 := 4096) (n1 := 4096) ⟨(i 0).val, (i 0).isLt⟩ k := fun h => by
    obtain ⟨h0, h1⟩ := Layout.idx_rows_val h (sender i) (ix2 (inTile i 0) k)
    funext a
    match a with
    | 0 => exact Fin.ext (h0.trans (show (i 0).val / 128 * 128 + (i 0).val % 128 = (i 0).val by omega))
    | 1 => exact Fin.ext h1
  have ew : ∀ h : Layout.Tiles ⟨2, ![4096, 256]⟩ ⟨2, ![4096, 8192]⟩ 1 32,
      colIdx c (ix2 k (inTile i 1)) = ix2 (n0 := 4096) (n1 := 8192) k (h.idx c i 1) := fun h => by
    funext a
    match a with
    | 0 => rfl
    | 1 => exact Fin.ext (show 256 * c.val + (i 1).val = c.val * 256 + (i 1).val by omega)
  refine congrArg₂ (fun a b : EReal => a * b) ?_ ?_
  · rw [Layout.block_apply, ex]
    exact congrArg x (by funext a; match a with | 0 => rfl | 1 => rfl)
  · rw [ew]

end Cert.KernelIdeal.Talk

end
-- ==== Proof.Same.lean ====
/- The kernel's program and its idealization are printed with the same text: at machine floats they are the same
   table of bodies and the same main program. What is shown of the one run is so shown of the other. -/
module

public import proofs.«01_k».proof.Proof.Gen.Kernel
public import proofs.«01_k».proof.Proof.Gen.KernelIdeal
public import Idealize.ShloMosaic.PureOps.BitExact

@[expose] public section

noncomputable section

namespace Cert.Same

open Idealize.ShloMosaic Idealize.SL.Sem

attribute [local instance] Cert.Kernel.Gen.facts Cert.KernelIdeal.Gen.facts

/-- The two main programs are the same. -/
theorem main_same : Cert.Kernel.main (F := Bits) = Cert.KernelIdeal.main (F := Bits) := rfl

/-- The two kernels' bodies are the same. -/
theorem body_same : Cert.Kernel.cc0_body (F := Bits) = Cert.KernelIdeal.cc0_body (F := Bits) := rfl

/-- The two tables of kernels are the same. -/
theorem kernels_same : Cert.Kernel.defs₀ (F := Bits) = Cert.KernelIdeal.defs₀ (F := Bits) := by
  funext pr l x
  match pr, l, x with
  | .tc, 0, (t, s) => exact congrFun rfl _
  | .scScalar _, _, _ => rfl
  | .scVector _ _, _, _ => rfl

/-- The two tables of bodies, with the pipelines' own, are the same. -/
theorem defs_same : Cert.Kernel.defs (F := Bits) = Cert.KernelIdeal.defs (F := Bits) := by
  unfold Cert.Kernel.defs Cert.KernelIdeal.defs
  exact congrArg (Pipeline.defs Cert.KernelIdeal.pcfgs) kernels_same

/-- A run of a program equal to the idealization's ends as the idealization's does. -/
theorem run_same (D : Defs Cert.KernelIdeal.nD Cert.KernelIdeal.τ Cert.KernelIdeal.sig (Elt Bits)
      (Pipeline.Sig Cert.KernelIdeal.Λ₀ (Fin 1) fun p => (Cert.KernelIdeal.pcfgs (F := Bits) p).Adm))
    (M : Dev Cert.KernelIdeal.nD → Prog (TpuEff Cert.KernelIdeal.nD Cert.KernelIdeal.τ Cert.KernelIdeal.sig (Elt Bits)
      (Pipeline.Sig Cert.KernelIdeal.Λ₀ (Fin 1) fun p => (Cert.KernelIdeal.pcfgs (F := Bits) p).Adm) .tc) PUnit)
    (hD : D = Cert.KernelIdeal.defs) (hM : M = Cert.KernelIdeal.main)
    (s : MemSt Cert.KernelIdeal.nD Cert.KernelIdeal.τ Cert.KernelIdeal.sig (Elt Bits)) (Q : _ → Prop)
    (h : θ_run Cert.KernelIdeal.defs (onTc (τ := Cert.KernelIdeal.τ) Cert.KernelIdeal.main) s Q) :
    θ_run D (onTc (τ := Cert.KernelIdeal.τ) M) s Q := by
  subst hD hM
  exact h

end Cert.Same

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Run
public import proofs.«01_k».proof.Proof.Values
public import proofs.«01_k».proof.Proof.Same
public import Idealize.ShloMosaic.Lib.Quiescent
public import Idealize.ShloMosaic.Adequacy
public import Idealize.ShloMosaic.Init

@[expose] public section

noncomputable section

namespace Cert.Proof

open Idealize.ShloMosaic Idealize.SL.Sem

/-- The kernel, over machine floats, ends with its arguments unchanged and its semaphores at zero. -/
theorem frame_kernel : Cert.quiescent_Kernel := fun m ρ _ =>
  Cert.Same.run_same Cert.Kernel.defs Cert.Kernel.main Cert.Same.defs_same Cert.Same.main_same ⟨m, fun _ => 0, ρ⟩ _
    ((θ_run Cert.KernelIdeal.defs _ _).mono (fun _ h => ⟨fun c => (h.1 c).2, h.2⟩)
      (Cert.KernelIdeal.Talk.run_main (F := Bits) m ρ))

/-- The kernel, over extended reals, ends with its arguments unchanged and its semaphores at zero. -/
theorem frame_ideal : Cert.quiescent_KernelIdeal := fun m ρ _ =>
  (θ_run Cert.KernelIdeal.defs _ _).mono (fun _ h => ⟨fun c => (h.1 c).2, h.2⟩)
    (Cert.KernelIdeal.Talk.run_main (F := Ideal) m ρ)

/-- The reference ends with its arguments unchanged; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Device `c` of the kernel ends holding block `c` of the columns of the reference's result. -/
theorem algebraic : Cert.algebraic_KernelIdeal_ReferenceIdeal := by
  intro m ρ m' ρ' _ hagree
  refine ⟨Cert.KernelIdeal.Talk.refOf (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun _ h c => ⟨(h.1 c).1.trans ?_, (h.1 c).2⟩)
      (Cert.KernelIdeal.Talk.run_main (F := Ideal) m ρ)
    exact Cert.KernelIdeal.Talk.resultOf_block _ _ _ _ (fun s => (hagree s).1) (fun s => (hagree s).2) c
  · exact (θ_run Cert.ReferenceIdeal.defs _ _).mono (fun _ h => h 0) (Cert.ReferenceIdeal.Value.run_refOf m' ρ')

/-- All five claims. -/
theorem claim : Cert.Claim := ⟨Cert.Kernel.Gen.facts, Cert.KernelIdeal.Gen.facts, Cert.ReferenceIdeal.Gen.facts,
  frame_kernel, frame_ideal, frame_reference, trivial, algebraic⟩

end Cert.Proof

end
